-- ==== Defs.lean ====
def Pre_Kernel [hPre_discrete_in_range : Cert.Pre_discrete_in_range.Facts] (m : (ℓ : Loc Cert.Kernel.nD Cert.Kernel.τ Cert.Kernel.sig) → Buf (Elt Bits) ℓ) : Prop :=
  ∀ c : Dev Cert.Kernel.nD,
    (Cert.Pre_discrete_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_discrete_in_range : Cert.Pre_discrete_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_discrete_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_KernelIdeal_discrete_in_range_unit_scales [hPre_discrete_in_range_unit_scales : Cert.Pre_discrete_in_range_unit_scales.Facts] (m : (ℓ : Loc Cert.KernelIdeal.nD Cert.KernelIdeal.τ Cert.KernelIdeal.sig) → Buf (Elt Ideal) ℓ) : Prop :=
  ∀ c : Dev Cert.KernelIdeal.nD,
    (Cert.Pre_discrete_in_range_unit_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_discrete_in_range_unit_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_discrete_in_range_unit_scales [hPre_discrete_in_range_unit_scales : Cert.Pre_discrete_in_range_unit_scales.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_discrete_in_range_unit_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_discrete_in_range_unit_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def quiescent_Kernel [hKernel : Cert.Kernel.Facts] [hPre_discrete_in_range : Cert.Pre_discrete_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_discrete_in_range : Cert.Pre_discrete_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_discrete_in_range_unit_scales [hKernelIdeal : Cert.KernelIdeal.Facts] [hPre_discrete_in_range_unit_scales : Cert.Pre_discrete_in_range_unit_scales.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_discrete_in_range_unit_scales m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_discrete_in_range_unit_scales [hReferenceIdeal : Cert.ReferenceIdeal.Facts] [hPre_discrete_in_range_unit_scales : Cert.Pre_discrete_in_range_unit_scales.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_discrete_in_range_unit_scales m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "half_log_2pi" .f32 0x3F6B3F8E#32 (((1 / 2) * (Real.log (13176795 / 2097152)) : ℝ) : EReal)

def algebraic_KernelIdeal_ReferenceIdeal_pre_discrete_in_range_unit_scales [hKernelIdeal : Cert.KernelIdeal.Facts] [hReferenceIdeal : Cert.ReferenceIdeal.Facts] [hPre_discrete_in_range_unit_scales : Cert.Pre_discrete_in_range_unit_scales.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_discrete_in_range_unit_scales m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_discrete_in_range : Cert.Pre_discrete_in_range.Facts) (hPre_discrete_in_range_unit_scales : Cert.Pre_discrete_in_range_unit_scales.Facts),
    quiescent_Kernel (hKernel := hKernel) (hPre_discrete_in_range := hPre_discrete_in_range)
    ∧ quiescent_KernelIdeal (hKernelIdeal := hKernelIdeal) (hPre_discrete_in_range := hPre_discrete_in_range)
    ∧ quiescent_KernelIdeal_pre_discrete_in_range_unit_scales (hKernelIdeal := hKernelIdeal) (hPre_discrete_in_range_unit_scales := hPre_discrete_in_range_unit_scales)
    ∧ quiescent_ReferenceIdeal (hReferenceIdeal := hReferenceIdeal)
    ∧ quiescent_ReferenceIdeal_pre_discrete_in_range_unit_scales (hReferenceIdeal := hReferenceIdeal) (hPre_discrete_in_range_unit_scales := hPre_discrete_in_range_unit_scales)
    ∧ preserves_Kernel_KernelIdeal
    ∧ algebraic_KernelIdeal_ReferenceIdeal_pre_discrete_in_range_unit_scales (hKernelIdeal := hKernelIdeal) (hReferenceIdeal := hReferenceIdeal) (hPre_discrete_in_range_unit_scales := hPre_discrete_in_range_unit_scales)
-- ==== Pre_discrete_in_range.lean ====
abbrev S1000000 : Shape := ⟨1, ![1000000]⟩
abbrev S16384 : Shape := ⟨1, ![16384]⟩
abbrev S_ : Shape := ⟨0, ![]⟩

class Facts : Prop where
  bcast_S_S16384 : S_.BroadcastsInDim S16384 (![] : Fin 0 → Fin S16384.rank)

variable [Facts]

def fn {F : FTy → Type} [FloatOps F] (main_arg0 : FVec F S1000000 .f32) (main_arg1 : FVec F S1000000 .f32) (main_arg2 : FVec F S1000000 .f32) (main_arg3 : IVec S16384 32) (main_arg4 : FVec F S16384 .f32) : IVec S16384 1 :=
  let main_c : IVec S_ 32 := constantI S_ 32 0#32
  let main_v0 : IVec S16384 32 := broadcastInDim S16384 ![] bcast_S_S16384 main_c
  let main_v1 : IVec S16384 1 := cmpi .sge main_arg3 main_v0
  let main_c_0 : IVec S_ 32 := constantI S_ 32 1000000#32
  let main_v2 : IVec S16384 32 := broadcastInDim S16384 ![] bcast_S_S16384 main_c_0
  let main_v3 : IVec S16384 1 := cmpi .slt main_arg3 main_v2
  let main_v4 : IVec S16384 1 := andi main_v1 main_v3
  main_v4
-- ==== Pre_discrete_in_range_unit_scales.lean ====
abbrev S1000000 : Shape := ⟨1, ![1000000]⟩
abbrev S16384 : Shape := ⟨1, ![16384]⟩
abbrev S_ : Shape := ⟨0, ![]⟩

class Facts : Prop where
  bcast_S_S16384 : S_.BroadcastsInDim S16384 (![] : Fin 0 → Fin S16384.rank)
  bcast_S_S1000000 : S_.BroadcastsInDim S1000000 (![] : Fin 0 → Fin S1000000.rank)

variable [Facts]

def fn {F : FTy → Type} [FloatOps F] (main_arg0 : FVec F S1000000 .f32) (main_arg1 : FVec F S1000000 .f32) (main_arg2 : FVec F S1000000 .f32) (main_arg3 : IVec S16384 32) (main_arg4 : FVec F S16384 .f32) : IVec S16384 1 × IVec S1000000 1 :=
  let main_c : IVec S_ 32 := constantI S_ 32 0#32
  let main_v0 : IVec S16384 32 := broadcastInDim S16384 ![] bcast_S_S16384 main_c
  let main_v1 : IVec S16384 1 := cmpi .sge main_arg3 main_v0
  let main_c_0 : IVec S_ 32 := constantI S_ 32 1000000#32
  let main_v2 : IVec S16384 32 := broadcastInDim S16384 ![] bcast_S_S16384 main_c_0
  let main_v3 : IVec S16384 1 := cmpi .slt main_arg3 main_v2
  let main_v4 : IVec S16384 1 := andi main_v1 main_v3
  let main_cst : FVec F S_ .f32 := constant S_ .f32 0x3F800000#32
  let main_v5 : FVec F S1000000 .f32 := broadcastInDim S1000000 ![] bcast_S_S1000000 main_cst
  let main_v6 : IVec S1000000 1 := cmpf .oeq main_arg2 main_v5
  (main_v4, main_v6)
-- ==== Kernel.lean ====
abbrev S1000000 : Shape := ⟨1, ![1000000]⟩
abbrev S16384 : Shape := ⟨1, ![16384]⟩
abbrev S128x128 : Shape := ⟨2, ![128, 128]⟩
abbrev S1x1 : Shape := ⟨2, ![1, 1]⟩
abbrev S131072 : Shape := ⟨1, ![131072]⟩
abbrev S1 : Shape := ⟨1, ![1]⟩
abbrev S1024x128 : Shape := ⟨2, ![1024, 128]⟩
abbrev S1x1024x128 : Shape := ⟨3, ![1, 1024, 128]⟩
abbrev S1x1x1 : Shape := ⟨3, ![1, 1, 1]⟩
abbrev S4x128 : Shape := ⟨2, ![4, 128]⟩
abbrev S_ : Shape := ⟨0, ![]⟩
abbrev S1x128 : Shape := ⟨2, ![1, 128]⟩
abbrev S128 : Shape := ⟨1, ![128]⟩
abbrev S1x16 : Shape := ⟨2, ![1, 16]⟩
abbrev S16 : Shape := ⟨1, ![16]⟩

abbrev nBuf : Table → Nat
  | .hbm => 11
  | .local .tc .vmem => 6
  | .local .tc .smem => 1
  | .local .scVector .vmem => 4
  | _ => 0

abbrev bufTy : (tb : Table) → Fin (nBuf tb) → BufTy
  | .hbm, ⟨0, _⟩ => ⟨S1000000, .f32⟩
  | .hbm, ⟨1, _⟩ => ⟨S1000000, .f32⟩
  | .hbm, ⟨2, _⟩ => ⟨S1000000, .f32⟩
  | .hbm, ⟨3, _⟩ => ⟨S16384, .i32⟩
  | .hbm, ⟨4, _⟩ => ⟨S16384, .f32⟩
  | .hbm, ⟨5, _⟩ => ⟨S128x128, .i32⟩
  | .hbm, ⟨6, _⟩ => ⟨S128x128, .f32⟩
  | .hbm, ⟨7, _⟩ => ⟨S1x1, .f32⟩
  | .hbm, ⟨8, _⟩ => ⟨S128x128, .f32⟩
  | .hbm, ⟨9, _⟩ => ⟨S128x128, .f32⟩
  | .hbm, ⟨10, _⟩ => ⟨S16384, .f32⟩
  | .local .tc .vmem, ⟨0, _⟩ => ⟨S131072, .f32⟩
  | .local .tc .vmem, ⟨1, _⟩ => ⟨S131072, .f32⟩
  | .local .tc .vmem, ⟨2, _⟩ => ⟨S1x1, .f32⟩
  | .local .tc .vmem, ⟨3, _⟩ => ⟨S1x1, .f32⟩
  | .local .tc .vmem, ⟨4, _⟩ => ⟨S128x128, .f32⟩
  | .local .tc .vmem, ⟨5, _⟩ => ⟨S128x128, .f32⟩
  | .local .tc .smem, ⟨0, _⟩ => ⟨S1, .f32⟩
  | .local .scVector .vmem, ⟨0, _⟩ => ⟨S4x128, .i32⟩
  | .local .scVector .vmem, ⟨1, _⟩ => ⟨S4x128, .f32⟩
  | .local .scVector .vmem, ⟨2, _⟩ => ⟨S4x128, .f32⟩
  | .local .scVector .vmem, ⟨3, _⟩ => ⟨S4x128, .f32⟩
  | _, _ => ⟨S1000000, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => true
  | ⟨1, _⟩ => true
  | ⟨2, _⟩ => true
  | ⟨3, _⟩ => false
  | ⟨4, _⟩ => false
  | ⟨5, _⟩ => false
  | ⟨6, _⟩ => false
  | ⟨7, _⟩ => true
  | ⟨8, _⟩ => true
  | ⟨9, _⟩ => true
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v0_scv : Ref sig .scVector := ⟨.hbm, 5, rfl⟩
abbrev main_v1_scv : Ref sig .scVector := ⟨.hbm, 6, rfl⟩
abbrev main_arg0_scv : Ref sig .scVector := ⟨.hbm, 0, rfl⟩
abbrev main_arg1_scv : Ref sig .scVector := ⟨.hbm, 1, rfl⟩
abbrev main_v3_scv : Ref sig .scVector := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc2_stg0_0 : Ref sig .tc := ⟨.vmem, 3, rfl⟩
abbrev cc2_stg1_0 : Ref sig .tc := ⟨.vmem, 4, rfl⟩
abbrev cc2_stg2_0 : Ref sig .tc := ⟨.vmem, 5, rfl⟩
abbrev cc0_scratch0 : Ref sig .tc := ⟨.smem, 0, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem0_1 : DmaSem sig := 1
abbrev cc0_sem1_0 : DmaSem sig := 2
abbrev cc2_sem0_0 : DmaSem sig := 7
abbrev cc2_sem1_0 : DmaSem sig := 8
abbrev cc2_sem2_0 : DmaSem sig := 9
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v25 : BitVec 1 := Scalar.cmpi .eq arg0 c7_i32
  let v26 : BitVec 32 := Scalar.extui v25
  let c0_i32_4 : BitVec 32 := 0#32
  let v27 : BitVec 1 := Scalar.cmpi .ne v26 c0_i32_4
  v27

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S131072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨2, ![2, 16], ![false, false]⟩

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c0_i32_388_r0 : BitVec 32 := 0#32
  ![v2.toNat, 0]
abbrev grid2 : Pipeline.Grid := .none

abbrev stage2_0 : Fin 1 → Memref sig .tc .vmem S1x1 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "half_log_2pi" => some (((1 / 2) * (Real.log (13176795 / 2097152)) : ℝ) : EReal)
  | _ => none
-- ==== ReferenceIdeal.lean ====
abbrev S1000000 : Shape := ⟨1, ![1000000]⟩
abbrev S16384 : Shape := ⟨1, ![16384]⟩
abbrev S_ : Shape := ⟨0, ![]⟩
abbrev S1 : Shape := ⟨1, ![1]⟩
abbrev S16384x1 : Shape := ⟨2, ![16384, 1]⟩
abbrev S1x1 : Shape := ⟨2, ![1, 1]⟩

abbrev nBuf : Space → Nat
  | .hbm => 103
  | .vmem => 0
  | .smem => 0
  | _ => 0

abbrev bufTy : (tb : Table) → Fin (tcTables nBuf tb) → BufTy
  | .hbm, ⟨0, _⟩ => ⟨S1000000, .f32⟩
  | .hbm, ⟨1, _⟩ => ⟨S1000000, .f32⟩
  | .hbm, ⟨2, _⟩ => ⟨S1000000, .f32⟩
  | .hbm, ⟨3, _⟩ => ⟨S16384, .i32⟩
  | .hbm, ⟨4, _⟩ => ⟨S16384, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S1, .f32⟩
  | .hbm, ⟨10, _⟩ => ⟨S1000000, .f32⟩
  | .hbm, ⟨11, _⟩ => ⟨S1000000, .f32⟩
  | .hbm, ⟨12, _⟩ => ⟨S1000000, .f32⟩
  | .hbm, ⟨13, _⟩ => ⟨S_, .f32⟩
  | .hbm, ⟨14, _⟩ => ⟨S_, .f32⟩
  | .hbm, ⟨15, _⟩ => ⟨S1, .f32⟩
  | .hbm, ⟨16, _⟩ => ⟨S1, .f32⟩
  | .hbm, ⟨17, _⟩ => ⟨S1000000, .f32⟩
  | .hbm, ⟨18, _⟩ => ⟨S1000000, .f32⟩
  | .hbm, ⟨19, _⟩ => ⟨S_, .i32⟩
  | .hbm, ⟨20, _⟩ => ⟨S16384, .i32⟩
  | .hbm, ⟨21, _⟩ => ⟨S16384, .i1⟩
  | .hbm, ⟨22, _⟩ => ⟨S_, .i32⟩
  | .hbm, ⟨23, _⟩ => ⟨S16384, .i32⟩
  | .hbm, ⟨24, _⟩ => ⟨S16384, .i32⟩
  | .hbm, ⟨25, _⟩ => ⟨S16384, .i32⟩
  | .hbm, ⟨26, _⟩ => ⟨S16384x1, .i32⟩
  | .hbm, ⟨27, _⟩ => ⟨S1, .i32⟩
  | .hbm, ⟨28, _⟩ => ⟨S_, .i32⟩
  | .hbm, ⟨29, _⟩ => ⟨S16384x1, .i32⟩
  | .hbm, ⟨30, _⟩ => ⟨S16384x1, .i1⟩
  | .hbm, ⟨31, _⟩ => ⟨S1x1, .i32⟩
  | .hbm, ⟨32, _⟩ => ⟨S16384x1, .i32⟩
  | .hbm, ⟨33, _⟩ => ⟨S16384x1, .i1⟩
  | .hbm, ⟨34, _⟩ => ⟨S16384x1, .i1⟩
  | .hbm, ⟨35, _⟩ => ⟨S_, .i1⟩
  | .hbm, ⟨36, _⟩ => ⟨S16384, .i1⟩
  | .hbm, ⟨37, _⟩ => ⟨S16384, .f32⟩
  | .hbm, ⟨38, _⟩ => ⟨S_, .f32⟩
  | .hbm, ⟨39, _⟩ => ⟨S16384, .f32⟩
  | .hbm, ⟨40, _⟩ => ⟨S16384, .f32⟩
  | .hbm, ⟨41, _⟩ => ⟨S_, .i32⟩
  | .hbm, ⟨42, _⟩ => ⟨S16384, .i32⟩
  | .hbm, ⟨43, _⟩ => ⟨S16384, .i1⟩
  | .hbm, ⟨44, _⟩ => ⟨S_, .i32⟩
  | .hbm, ⟨45, _⟩ => ⟨S16384, .i32⟩
  | .hbm, ⟨46, _⟩ => ⟨S16384, .i32⟩
  | .hbm, ⟨47, _⟩ => ⟨S16384, .i32⟩
  | .hbm, ⟨48, _⟩ => ⟨S16384x1, .i32⟩
  | .hbm, ⟨49, _⟩ => ⟨S1, .i32⟩
  | .hbm, ⟨50, _⟩ => ⟨S_, .i32⟩
  | .hbm, ⟨51, _⟩ => ⟨S16384x1, .i32⟩
  | .hbm, ⟨52, _⟩ => ⟨S16384x1, .i1⟩
  | .hbm, ⟨53, _⟩ => ⟨S1x1, .i32⟩
  | .hbm, ⟨54, _⟩ => ⟨S16384x1, .i32⟩
  | .hbm, ⟨55, _⟩ => ⟨S16384x1, .i1⟩
  | .hbm, ⟨56, _⟩ => ⟨S16384x1, .i1⟩
  | .hbm, ⟨57, _⟩ => ⟨S_, .i1⟩
  | .hbm, ⟨58, _⟩ => ⟨S16384, .i1⟩
  | .hbm, ⟨59, _⟩ => ⟨S16384, .f32⟩
  | .hbm, ⟨60, _⟩ => ⟨S_, .f32⟩
  | .hbm, ⟨61, _⟩ => ⟨S16384, .f32⟩
  | .hbm, ⟨62, _⟩ => ⟨S16384, .f32⟩
  | .hbm, ⟨63, _⟩ => ⟨S_, .i32⟩
  | .hbm, ⟨64, _⟩ => ⟨S16384, .i32⟩
  | .hbm, ⟨65, _⟩ => ⟨S16384, .i1⟩
  | .hbm, ⟨66, _⟩ => ⟨S_, .i32⟩
  | .hbm, ⟨67, _⟩ => ⟨S16384, .i32⟩
  | .hbm, ⟨68, _⟩ => ⟨S16384, .i32⟩
  | .hbm, ⟨69, _⟩ => ⟨S16384, .i32⟩
  | .hbm, ⟨70, _⟩ => ⟨S16384x1, .i32⟩
  | .hbm, ⟨71, _⟩ => ⟨S1, .i32⟩
  | .hbm, ⟨72, _⟩ => ⟨S_, .i32⟩
  | .hbm, ⟨73, _⟩ => ⟨S16384x1, .i32⟩
  | .hbm, ⟨74, _⟩ => ⟨S16384x1, .i1⟩
  | .hbm, ⟨75, _⟩ => ⟨S1x1, .i32⟩
  | .hbm, ⟨76, _⟩ => ⟨S16384x1, .i32⟩
  | .hbm, ⟨77, _⟩ => ⟨S16384x1, .i1⟩
  | .hbm, ⟨78, _⟩ => ⟨S16384x1, .i1⟩
  | .hbm, ⟨79, _⟩ => ⟨S_, .i1⟩
  | .hbm, ⟨80, _⟩ => ⟨S16384, .i1⟩
  | .hbm, ⟨81, _⟩ => ⟨S16384, .f32⟩
  | .hbm, ⟨82, _⟩ => ⟨S_, .f32⟩
  | .hbm, ⟨83, _⟩ => ⟨S16384, .f32⟩
  | .hbm, ⟨84, _⟩ => ⟨S16384, .f32⟩
  | .hbm, ⟨85, _⟩ => ⟨S16384, .f32⟩
  | .hbm, ⟨86, _⟩ => ⟨S16384, .f32⟩
  | .hbm, ⟨87, _⟩ => ⟨S16384, .f32⟩
  | .hbm, ⟨88, _⟩ => ⟨S16384, .f32⟩
  | .hbm, ⟨89, _⟩ => ⟨S_, .f32⟩
  | .hbm, ⟨90, _⟩ => ⟨S16384, .f32⟩
  | .hbm, ⟨91, _⟩ => ⟨S16384, .f32⟩
  | .hbm, ⟨92, _⟩ => ⟨S16384, .f32⟩
  | .hbm, ⟨93, _⟩ => ⟨S16384, .f32⟩
  | .hbm, ⟨94, _⟩ => ⟨S16384, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S16384, .f32⟩
  | .hbm, ⟨101, _⟩ => ⟨S16384, .f32⟩
  | .hbm, ⟨102, _⟩ => ⟨S16384, .f32⟩
  | _, _ => ⟨S1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_call0_cst_0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_v0 : Ref sig .tc := ⟨.hbm, 18, rfl⟩
abbrev main_call1_c : Ref sig .tc := ⟨.hbm, 19, rfl⟩
abbrev main_call1_v0 : Ref sig .tc := ⟨.hbm, 20, rfl⟩
abbrev main_call1_v1 : Ref sig .tc := ⟨.hbm, 21, rfl⟩
abbrev main_call1_c_0 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_c_1 : Ref sig .tc := ⟨.hbm, 27, rfl⟩
abbrev main_call1_c_2 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_c_3 : Ref sig .tc := ⟨.hbm, 35, rfl⟩
abbrev main_call1_v12 : Ref sig .tc := ⟨.hbm, 36, rfl⟩
abbrev main_call1_v13 : Ref sig .tc := ⟨.hbm, 37, rfl⟩
abbrev main_call1_cst : Ref sig .tc := ⟨.hbm, 38, rfl⟩
abbrev main_call1_v14 : Ref sig .tc := ⟨.hbm, 39, rfl⟩
abbrev main_v1 : Ref sig .tc := ⟨.hbm, 40, rfl⟩
abbrev main_call2_c : Ref sig .tc := ⟨.hbm, 41, rfl⟩
abbrev main_call2_v0 : Ref sig .tc := ⟨.hbm, 42, rfl⟩
abbrev main_call2_v1 : Ref sig .tc := ⟨.hbm, 43, rfl⟩
abbrev main_call2_c_0 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_call2_v5 : Ref sig .tc := ⟨.hbm, 48, rfl⟩
abbrev main_call2_c_1 : Ref sig .tc := ⟨.hbm, 49, rfl⟩
abbrev main_call2_c_2 : Ref sig .tc := ⟨.hbm, 50, rfl⟩
abbrev main_call2_v6 : Ref sig .tc := ⟨.hbm, 51, rfl⟩
abbrev main_call2_v7 : Ref sig .tc := ⟨.hbm, 52, rfl⟩
abbrev main_call2_v8 : Ref sig .tc := ⟨.hbm, 53, rfl⟩
abbrev main_call2_v9 : Ref sig .tc := ⟨.hbm, 54, rfl⟩
abbrev main_call2_v10 : Ref sig .tc := ⟨.hbm, 55, rfl⟩
abbrev main_call2_v11 : Ref sig .tc := ⟨.hbm, 56, rfl⟩
abbrev main_call2_c_3 : Ref sig .tc := ⟨.hbm, 57, rfl⟩
abbrev main_call2_v12 : Ref sig .tc := ⟨.hbm, 58, rfl⟩
abbrev main_call2_v13 : Ref sig .tc := ⟨.hbm, 59, rfl⟩
abbrev main_call2_cst : Ref sig .tc := ⟨.hbm, 60, rfl⟩
abbrev main_call2_v14 : Ref sig .tc := ⟨.hbm, 61, rfl⟩
abbrev main_v2 : Ref sig .tc := ⟨.hbm, 62, rfl⟩
abbrev main_call3_c : Ref sig .tc := ⟨.hbm, 63, rfl⟩
abbrev main_call3_v0 : Ref sig .tc := ⟨.hbm, 64, rfl⟩
abbrev main_call3_v1 : Ref sig .tc := ⟨.hbm, 65, rfl⟩
abbrev main_call3_c_0 : Ref sig .tc := ⟨.hbm, 66, rfl⟩
abbrev main_call3_v2 : Ref sig .tc := ⟨.hbm, 67, rfl⟩
abbrev main_call3_v3 : Ref sig .tc := ⟨.hbm, 68, rfl⟩
abbrev main_call3_v4 : Ref sig .tc := ⟨.hbm, 69, rfl⟩
abbrev main_call3_v5 : Ref sig .tc := ⟨.hbm, 70, rfl⟩
abbrev main_call3_c_1 : Ref sig .tc := ⟨.hbm, 71, rfl⟩
abbrev main_call3_c_2 : Ref sig .tc := ⟨.hbm, 72, rfl⟩
abbrev main_call3_v6 : Ref sig .tc := ⟨.hbm, 73, rfl⟩
abbrev main_call3_v7 : Ref sig .tc := ⟨.hbm, 74, rfl⟩
abbrev main_call3_v8 : Ref sig .tc := ⟨.hbm, 75, rfl⟩
abbrev main_call3_v9 : Ref sig .tc := ⟨.hbm, 76, rfl⟩
abbrev main_call3_v10 : Ref sig .tc := ⟨.hbm, 77, rfl⟩
abbrev main_call3_v11 : Ref sig .tc := ⟨.hbm, 78, rfl⟩
abbrev main_call3_c_3 : Ref sig .tc := ⟨.hbm, 79, rfl⟩
abbrev main_call3_v12 : Ref sig .tc := ⟨.hbm, 80, rfl⟩
abbrev main_call3_v13 : Ref sig .tc := ⟨.hbm, 81, rfl⟩
abbrev main_call3_cst : Ref sig .tc := ⟨.hbm, 82, rfl⟩
abbrev main_call3_v14 : Ref sig .tc := ⟨.hbm, 83, rfl⟩
abbrev main_v3 : Ref sig .tc := ⟨.hbm, 84, rfl⟩
abbrev main_v4 : Ref sig .tc := ⟨.hbm, 85, rfl⟩
abbrev main_v5 : Ref sig .tc := ⟨.hbm, 86, rfl⟩
abbrev main_v6 : Ref sig .tc := ⟨.hbm, 87, rfl⟩
abbrev main_v7 : Ref sig .tc := ⟨.hbm, 88, rfl⟩
abbrev main_cst : Ref sig .tc := ⟨.hbm, 89, rfl⟩
abbrev main_v8 : Ref sig .tc := ⟨.hbm, 90, rfl⟩
abbrev main_v9 : Ref sig .tc := ⟨.hbm, 91, rfl⟩
abbrev main_v10 : Ref sig .tc := ⟨.hbm, 92, rfl⟩
abbrev main_v11 : Ref sig .tc := ⟨.hbm, 93, rfl⟩
abbrev main_v12 : Ref sig .tc := ⟨.hbm, 94, rfl⟩
abbrev main_cst_0 : Ref sig .tc := ⟨.hbm, 95, rfl⟩
abbrev main_v13 : Ref sig .tc := ⟨.hbm, 96, rfl⟩
abbrev main_cst_1 : Ref sig .tc := ⟨.hbm, 97, rfl⟩
abbrev main_v14 : Ref sig .tc := ⟨.hbm, 98, rfl⟩
abbrev main_v15 : Ref sig .tc := ⟨.hbm, 99, rfl⟩
abbrev main_v16 : Ref sig .tc := ⟨.hbm, 100, rfl⟩
abbrev main_v17 : Ref sig .tc := ⟨.hbm, 101, rfl⟩
abbrev main_v18 : Ref sig .tc := ⟨.hbm, 102, rfl⟩

abbrev nD : Nat := 1
abbrev τ : Topo := Topo.v7x

variable {F : FTy → Type} [FloatOps F]
-- ==== Proof.GatherBatch.lean ====
/-
  Several indirect gathers of ONE counted batch on one DMA cell.  Each gather's row transfers are that many
  deliveries of the batch; nothing is learnt until the batch is drained, and then every row is back at once.
-/
module

public import Idealize.ShloMosaic.Lib.Batch
public import Idealize.ShloMosaic.Lib.SparseCore.Stream

@[expose] public section

noncomputable section

namespace Cert.Proof.GatherBatch

open Idealize.ShloMosaic Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

/-! ## Taking a run of issue rights at once -/

omit [Preorder Lvl] in
/-- What is pending from position `j` is the next `o` positions and what is pending after them. -/
theorem pending_run {n : ℕ} (j o : ℕ) (h : j + o ≤ n) (Φ : Fin n → sProp 𝕄) :
    bigSep (Transfers.pending j) Φ
      = iprop((bigSep Finset.univ fun k : Fin o => Φ ⟨j + k.val, by omega⟩) ∗ bigSep (Transfers.pending (j + o)) Φ) := by
  classical
  let emb : Fin o ↪ Fin n := ⟨fun k => ⟨j + k.val, by omega⟩, fun x y hxy => by
    have := congrArg Fin.val hxy; simp only at this; exact Fin.ext (by omega)⟩
  have hset : Transfers.pending (n := n) j = Finset.univ.map emb ∪ Transfers.pending (j + o) := by
    ext t
    simp only [Transfers.pending, Finset.mem_filter, Finset.mem_univ, true_and, Finset.mem_union, Finset.mem_map]
    constructor
    · intro ht
      by_cases hlt : j + o ≤ t.val
      · exact .inr hlt
      · exact .inl ⟨⟨t.val - j, by omega⟩, Fin.ext (by change j + (t.val - j) = t.val; omega)⟩
    · rintro (⟨k, rfl⟩ | ht)
      · change j ≤ j + k.val; omega
      · omega
  have hdis : Disjoint (Finset.univ.map emb) (Transfers.pending (n := n) (j + o)) := by
    refine Finset.disjoint_left.mpr fun t ht ht' => ?_
    obtain ⟨k, -, rfl⟩ := Finset.mem_map.mp ht
    have h2 : j + o ≤ j + k.val := (Finset.mem_filter.mp ht').2
    have := k.isLt; omega
  rw [hset, BI.bigSep_union hdis, BI.bigSep_map]; rfl

/-! ## One row's delivery, and the rows joined -/

/-- The list's entry for row `j`. -/
def entry (offs : Memref sig c.2.kind .vmem si .i32) (hg : s₀.Gathers a s) (hn : si.numel = s.size hg.axis')
    (j : Fin (s.size hg.axis')) : si.Idx := si.rowMajor.symm (j.cast hn.symm)

omit [Preorder Lvl] in
theorem entry_bijective (offs : Memref sig c.2.kind .vmem si .i32) (hg : s₀.Gathers a s) (hn : si.numel = s.size hg.axis') :
    Function.Bijective (entry c offs hg hn) :=
  si.rowMajor.symm.bijective.comp (finCongr hn.symm).bijective

/-- The source's row `r j`, as the row transfer of row `j` reads it. -/
def rowRead (src : Memref sig c.2.kind sp s₀ e) (hg : s₀.Gathers a s) (fs : Buf (Elt F) (src.view.loc c))
    (r : Fin (s.size hg.axis') → Fin (s₀.size hg.axis)) (j : Fin (s.size hg.axis')) : (s.rowShape hg.axis').Idx → Elt F e :=
  fun i => src.view.read (Elt F) fs (hg.rowIdx (r j) i)

/-- What the transfer of row `j` brings back: row `j` of the destination written with the source's row `r j`, the
    list's entry `j`, and the row's piece of the source's share. -/
def rowBack (src : Memref sig c.2.kind sp s₀ e) (dst : Memref sig c.2.kind .vmem s e) (hg : s₀.Gathers a s)
    (offs : Memref sig c.2.kind .vmem si .i32) (hn : si.numel = s.size hg.axis')
    (q qo : PosShare TreeShare) (fs : Buf (Elt F) (src.view.loc c)) (fd : Buf (Elt F) (dst.view.loc c)) (fo : Buf (Elt F) (offs.view.loc c))
    (ho : 0 < s.size hg.axis') (r : Fin (s.size hg.axis') → Fin (s₀.size hg.axis)) (j : Fin (s.size hg.axis')) : sProp 𝕄 :=
  iprop(((dst.view.loc c ↦[(dst.view.slice (s.rowRect hg.axis' j)).set]{fullShare}
          ((dst.view.slice (s.rowRect hg.axis' j)).write (Elt F) fd (rowRead c src hg fs r j) Finset.univ))
      ∗ (offs.view.loc c ↦[{offs.view.emb (entry c offs hg hn j)}]{qo} fo))
    ∗ (src.view.loc c ↦[src.view.set]{pieceOf q _ ho j} fs))

instance rowBack_storable (src : Memref sig c.2.kind sp s₀ e) (dst : Memref sig c.2.kind .vmem s e) (hg : s₀.Gathers a s)
    (offs : Memref sig c.2.kind .vmem si .i32) (hn : si.numel = s.size hg.axis')
    (q qo : PosShare TreeShare) (fs : Buf (Elt F) (src.view.loc c)) (fd : Buf (Elt F) (dst.view.loc c)) (fo : Buf (Elt F) (offs.view.loc c))
    (ho : 0 < s.size hg.axis') (r : Fin (s.size hg.axis') → Fin (s₀.size hg.axis)) (j : Fin (s.size hg.axis')) :
    Storable (upEmb : UEmb _ 𝕄) (rowBack (U := U) (Lvl := Lvl) (Name := Name) (Ix := Ix) c src dst hg offs hn q qo fs fd fo ho r j) := by
  unfold rowBack; infer_instance

omit [Preorder Lvl] in
/-- All the rows back are the destination written with the whole gather, the source's share and the list's. -/
theorem rowBack_join (src : Memref sig c.2.kind sp s₀ e) (dst : Memref sig c.2.kind .vmem s e) (hg : s₀.Gathers a s)
    (offs : Memref sig c.2.kind .vmem si .i32) (hn : si.numel = s.size hg.axis')
    (q qo : PosShare TreeShare) (fs : Buf (Elt F) (src.view.loc c)) (fd : Buf (Elt F) (dst.view.loc c)) (fo : Buf (Elt F) (offs.view.loc c))
    (ho : 0 < s.size hg.axis') (r : Fin (s.size hg.axis') → Fin (s₀.size hg.axis)) :
    bigSep Finset.univ (rowBack (U := U) (Lvl := Lvl) (Name := Name) (Ix := Ix) c src dst hg offs hn q qo fs fd fo ho r)
      ⊢ iprop((dst.view.loc c ↦[dst.view.set]{fullShare}
                (dst.view.write (Elt F) fd (gatherPayload hg (src.view.read (Elt F) fs) r) Finset.univ))
          ∗ (offs.view.loc c ↦[offs.view.set]{qo} fo) ∗ (src.view.loc c ↦[src.view.set]{q} fs)) := by
  unfold rowBack
  iintro HD
  ihave H1 := Transfers.bigSep_sep_out _ _ _ $$ HD
  icases H1 with ⟨H2, Hsrc⟩
  ihave H3 := Transfers.bigSep_sep_out _ _ _ $$ H2
  icases H3 with ⟨Hrows, Hoffs⟩
  isplitl [Hrows]
  · iapply (pointsTo_rows_write c dst.view hg.axis' fd (rowRead c src hg fs r)
      (gatherPayload hg (src.view.read (Elt F) fs) r) (fun j i => by unfold gatherPayload rowRead; rw [Shape.Gathers.idx_rowRect_emb])) $$ Hrows
  isplitl [Hoffs]
  · iapply (Entails.of_eq (pointsTo_entries c offs.view (entry c offs hg hn) (entry_bijective c offs hg hn) qo fo).symm) $$ Hoffs
  · iapply (Entails.of_eq (pointsTo_piecesOf (src.view.set) fs ho q).symm) $$ Hsrc

/-! ## The issue -/

/-- Issuing a gather into a batch of which `j` transfers are issued already: its rows are the batch's next transfers,
    row `k` being delivery `j + k`. -/
theorem wp_issue [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    {n : ℕ} {D : Fin n → sProp 𝕄} {j u : ℕ}
    (ι : Ix) (N : ℕ) (hN : ∀ j, (dst.slice (s.rowRect hg.axis' j) (s.stride_rowRect hg.axis' j)).view.dmaCredit = N)
    (ho : 0 < s.size hg.axis') (hin : ∀ x, (offs.view.read (Elt F) fo x).toNat < s₀.size hg.axis)
    (hj : j + s.size hg.axis' ≤ n) (hu : u ≤ j * N)
    (hD : ∀ i : Fin (s.size hg.axis'),
      rowBack (U := U) (Lvl := Lvl) (Name := Name) (Ix := Ix) c src dst hg offs hn q qo fs fd fo ho (rows (offs.view.read (Elt F) fo) hn hin) i
        ⊢ D ⟨j + i.val, by omega⟩) :
    iprop((src.view.loc c ↦[src.view.set]{q} fs) ∗ (dst.view.loc c ↦[dst.view.set]{fullShare} fd)
        ∗ (offs.view.loc c ↦[offs.view.set]{qo} fo) ∗ Transfers.Batch EC c (.dma sem) ι N D j u)
      ⊢ iprop((Transfers.Batch EC c (.dma sem) ι N D (j + s.size hg.axis') u -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  let S : Stream nD τ sig (Elt F) :=
    Stream.issued c offs.view hn sem (fun j w => (rowOf (s₀.size hg.axis) w).map (gatherRow c src dst hg sem hsrc he hsp hr j)) 0
  let r : Fin (s.size hg.axis') → Fin (s₀.size hg.axis) := rows (offs.view.read (Elt F) fo) hn hin
  let rd : Fin (s.size hg.axis') → RowDma τ sig (Elt F) c.2 sem := fun j => gatherRow c src dst hg sem hsrc he hsp hr j (r j)
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ j, S.row j (S.word fo j) = some (rd j) := fun j => by
    change (rowOf (s₀.size hg.axis) (offs.view.read (Elt F) fo (S.entry j))).map _ = _
    rw [rowOf_of_lt (hin _)]; rfl
  have hsum : ∑ i, (dst.slice (s.rowRect hg.axis' i) (s.stride_rowRect hg.axis' i)).view.dmaCredit = s.size hg.axis' * N := by
    rw [Finset.sum_congr rfl fun i _ => hN i, Finset.sum_const, Finset.card_univ, Fintype.card_fin, smul_eq_mul]
  unfold Transfers.Batch
  iintro ⟨Hs, Hd, Ho, ⟨%γ, %γ₀, %κ, #Hinv, HI, H0, Hcred⟩⟩ Hk
  ihave HI' := (Entails.of_eq (pending_run j (s.size hg.axis') hj (fun t => count EC (γ t) 0))) $$ HI
  icases HI' with ⟨Hγ, HI⟩
  ihave Hd' := (Entails.of_eq (pointsTo_rows c dst.view hg.axis' fullShare fd)) $$ Hd
  ihave Ho' := (Entails.of_eq (pointsTo_entries c offs.view S.entry (entry_bijective c offs hg hn) qo fo)) $$ Ho
  ihave Hs' := (Entails.of_eq (pointsTo_piecesOf (src.view.set) fs ho q)) $$ Hs
  iapply (wp_enqueueIndirectDma 𝒱 c bd Set.univ (qo := qo) (fo := fo) (rd := rd) ι (s.size hg.axis' * N) hA hrd hsum) $$ [Hd' Ho' Hs' Hγ]
  · have hrow : ∀ i : Fin (s.size hg.axis'), iprop(inv κ (Transfers.batchBody EC (c, SemLoc.dma sem) N D γ γ₀)
          ∗ ((((dst.view.loc c ↦[(dst.view.slice (s.rowRect hg.axis' i)).set]{fullShare} fd) ∗ S.heldEntry qo fo i)
          ∗ (src.view.loc c ↦[src.view.set]{pieceOf q _ ho i} fs)) ∗ count EC (γ ⟨j + i.val, by omega⟩) 0))
        ⊢ iprop(S.heldEntry qo fo i ∗ (S.heldEntry qo fo i -∗ rowRes c (rd i))) := fun i => by
      iintro ⟨#Hinv, ⟨⟨Hr, He⟩, Hsq⟩, Hγi⟩
      isplitl [He]; · iexact He
      iintro He
      unfold rowRes
      iexists pieceOf q _ ho i, fs, iprop((dst.view.loc c ↦[(dst.view.slice (s.rowRect hg.axis' i)).set]{fullShare}
        ((dst.view.slice (s.rowRect hg.axis' i)).write (Elt F) fd (rowRead c src hg fs r i) Finset.univ)) ∗ S.heldEntry qo fo i)
      isplitl [Hsq]; · iexact Hsq
      isplitl [Hr He]
      · iapply writeUpdate_frame
        isplitl [Hr]
        · iapply (pointsTo_writeUpdate c (v := dst.view.slice (s.rowRect hg.axis' i)) subset_rfl) $$ Hr
        · iexact He
      · rw [show (rd i).dst.view.amount (.dma sem) = N from hN i]
        iapply (Transfers.batch_creditUpdate EC (N := N) (D := D) ⟨j + i.val, by omega⟩ (hD i))
        isplitr; · iexact Hinv
        iexact Hγi
    unfold Stream.res
    ihave H1 := Transfers.bigSep_sep_in _ _ _ $$ [Hd' Ho']; · isplitl [Hd'] <;> iassumption
    ihave H2 := Transfers.bigSep_sep_in _ _ _ $$ [H1 Hs']; · isplitl [H1] <;> iassumption
    ihave H3 := Transfers.bigSep_sep_in _ _ _ $$ [H2 Hγ]; · isplitl [H2] <;> iassumption
    iapply (Transfers.bigSep_mono_pers Finset.univ _ _ _ fun i _ => hrow i)
    isplitr; · iexact Hinv
    iexact H3
  · iintro Hcred'
    iapply Hk
    iexists γ, γ₀, κ
    isplitr; · iexact Hinv
    isplitl [HI]; · iexact HI
    isplitl [H0]; · iexact H0
    rw [show (j + s.size hg.axis') * N - u = (j * N - u) + s.size hg.axis' * N by rw [Nat.add_mul]; omega, ← tallyAt_add]
    icombine Hcred Hcred' as H
    iexact H

/-- A batch's deliveries listed group by group. -/
theorem deliveries_groups {g o n : ℕ} (hno : n = g * o) (D : Fin n → sProp 𝕄) :
    bigSep Finset.univ D
      = bigSep Finset.univ fun x : Fin g => bigSep Finset.univ fun i : Fin o => D ⟨o * x.val + i.val, by
          have hx : x.val + 1 ≤ g := x.isLt
          have h1 := Nat.mul_le_mul_left o hx
          rw [hno, Nat.mul_comm g o]; have := i.isLt; rw [Nat.mul_add] at h1; omega⟩ := by
  subst hno
  rw [BI.bigSep_univ_equiv finProdFinEquiv D, BI.bigSep_univ_prod]
  refine BI.bigSep_congr fun x _ => BI.bigSep_congr fun i _ => congrArg D (Fin.ext ?_)
  simp only [finProdFinEquiv_apply_val]; omega

end Cert.Proof.GatherBatch

end
-- ==== Proof.Setup.lean ====
/-
  The set-up both halves of the run share: the program as the SparseCore launch sees it, the ghost state, the buffers,
  and the values the kernel is proved to leave — the gathered part of each result entry (`Part`), written over any
  float values.
-/
module

public import proofs.«01_k».proof.Defs
public import proofs.«01_k».proof.Proof.GatherBatch
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.Proof.Run

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] [Named F] : Defs nD τ sig (Elt F) (ΛP (F := F)) := Pipeline.defs pcfgs defs₀
abbrev 𝒱₀ : Variants := Variants.none
abbrev 𝒱₁ : Variants := 𝒱₀.lift
abbrev v₀ : 𝒱₁.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the pipelines' rounds, the transfers' counters -/

abbrev UH : Type := URounds (GSem nD τ sig) ℕ
abbrev UK : Type := URounds (GSem nD τ sig) Unit
abbrev UU : Type := UH × (UK × Counters)

local notation "𝕄" => MT nD τ sig (SparseCore.Cfg.HIx 1) (Elt F) ℕ UU ℕ

abbrev EH : Emb UH (MT nD τ sig (SparseCore.Cfg.HIx 1) (Elt F) ℕ UU ℕ) := embL

/-! ## The buffers -/

abbrev lLoc (d : Dev nD) : Loc nD τ sig := (SparseCore.T d).loc main_arg0
abbrev xLoc (d : Dev nD) : Loc nD τ sig := (SparseCore.T d).loc main_arg1
abbrev iLoc (d : Dev nD) : Loc nD τ sig := (SparseCore.T d).loc main_v0
abbrev cLoc (d : Dev nD) : Loc nD τ sig := (SparseCore.T d).loc main_v1
abbrev oLoc (d : Dev nD) : Loc nD τ sig := (SparseCore.T d).loc main_v3

/-! ## What a task leaves -/

/-- The table entry a word names: its unsigned value, held inside the table. -/
def rowAt (w : BitVec 32) : S1000000.Idx := fun a => ⟨min w.toNat 999999, by
  have h : S1000000.size a = 1000000 := by match a with | 0 => rfl
  omega⟩

section Value
variable [FloatOps F] [Named F]

/-- One entry: the gathered logit `g`, less half the squared distance of the value `c` from its gathered centre `x`,
    less the normal density's constant. -/
def entryOf (c x g : F .f32) : F .f32 :=
  FloatOps.subf (FloatOps.subf g (FloatOps.mulf (FloatOps.mulf (Scalar.ofBits .f32 0x3F000000#32) (FloatOps.subf c x)) (FloatOps.subf c x)))
    (Named.named κ "half_log_2pi" 0x3F6B3F8E#32)

/-- What the SparseCore call leaves at each entry, from the contents of its four operands. -/
def Part (fI : S128x128.Idx → BitVec 32) (fC : S128x128.Idx → F .f32) (fL fX : S1000000.Idx → F .f32) : S128x128.Idx → F .f32 :=
  fun y => entryOf (fC y) (fX (rowAt (fI y))) (fL (rowAt (fI y)))

end Value

/-! ## The tasks: 32 blocks of four rows -/

/-- The block of the task on SparseCore `c`, tile `i`. -/
def wid (c : Fin 2) (i : Fin 16) : Fin 32 := ⟨2 * i.val + c.val, by omega⟩

theorem rdiv : 32 ∣ S128x128.size 0 := ⟨4, rfl⟩
/-- Block `w`: rows `4w … 4w + 3`. -/
abbrev rowR (w : Fin 32) : Rect S128x128 := Rect.part (s := S128x128) (a₀ := 0) rdiv w
/-- Block `w`'s share of a table every task reads. -/
abbrev tq (w : Fin 32) : PosShare TreeShare := pieceOf fullShare 32 (by decide) w

end Cert.Proof.Run

end
-- ==== Proof.Tile.lean ====
/-
  One task of the SparseCore call, at a symbolic SparseCore and tile: it fetches its four rows of row numbers and of
  values, starts eight indirect gathers (four rows of logits, four of centres) on one semaphore, waits for all eight,
  computes the 512 entries sixteen at a time over the gathered logits, and writes its four rows of the result.
-/
module

public import proofs.«01_k».proof.Proof.Setup

@[expose] public section

noncomputable section

namespace Cert.Proof.Run

open Cert.KernelIdeal Cert.KernelIdeal.Gen

open Idealize.ShloMosaic
open Idealize.ShloMosaic.SparseCore (S V T rows gatherPayload)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.GatherBatch

variable {F : FTy → Type} [FloatOps F] [Named F]

local notation "𝕄" => MT nD τ sig (HIx 1) (Elt F) ℕ UU ℕ

/-! ## The task's memrefs -/

abbrev iM : Memref sig .scVector .hbm S128x128 .i32 := Memref.whole main_v0_scv
abbrev cM : Memref sig .scVector .hbm S128x128 .f32 := Memref.whole main_v1_scv
abbrev lM : Memref sig .scVector .hbm S1000000 .f32 := Memref.whole main_arg0_scv
abbrev xM : Memref sig .scVector .hbm S1000000 .f32 := Memref.whole main_arg1_scv
abbrev oM : Memref sig .scVector .hbm S128x128 .f32 := Memref.whole main_v3_scv
abbrev iB : Memref sig .scVector .vmem S4x128 .i32 := Memref.whole cc1_scratch0
abbrev cB : Memref sig .scVector .vmem S4x128 .f32 := Memref.whole cc1_scratch1
abbrev gB : Memref sig .scVector .vmem S4x128 .f32 := Memref.whole cc1_scratch2
abbrev xB : Memref sig .scVector .vmem S4x128 .f32 := Memref.whole cc1_scratch3

/-- What the task of block `w` takes and brings back: its rows of the row numbers, of the values and of the result
    (at contents `fO`), its share of the two tables. -/
def taskPts (d : Dev nD) (w : Fin 32) (fI : Buf (Elt F) (iLoc d)) (fC : Buf (Elt F) (cLoc d)) (fL : Buf (Elt F) (lLoc d)) (fX : Buf (Elt F) (xLoc d))
    (fO : Buf (Elt F) (oLoc d)) : sProp 𝕄 :=
  iprop((iLoc d ↦[(rowR w).set]{fullShare} fI) ∗ (cLoc d ↦[(rowR w).set]{fullShare} fC)
    ∗ (lLoc d ↦{tq w} fL) ∗ (xLoc d ↦{tq w} fX) ∗ oLoc d ↦[(rowR w).set]{fullShare} fO)

instance (d : Dev nD) (w : Fin 32) (fI : Buf (Elt F) (iLoc d)) (fC : Buf (Elt F) (cLoc d)) (fL : Buf (Elt F) (lLoc d)) (fX : Buf (Elt F) (xLoc d))
    (fO : Buf (Elt F) (oLoc d)) : Storable (upEmb : UEmb _ 𝕄) (taskPts d w fI fC fL fX fO) := by
  unfold taskPts; infer_instance

section Task

variable (d : Dev nD) (L : grid1.Coords)

abbrev cV (L : grid1.Coords) : Fin τ.nSC := (L 0).castLE hcore1
abbrev jV (L : grid1.Coords) : Fin τ.nSub := (L 1).castLE hsub1
theorem bound_zero : grid1.bound 0 = 2 := rfl
theorem bound_one : grid1.bound 1 = 16 := rfl
abbrev wL (L : grid1.Coords) : Fin 32 := wid (Fin.cast bound_zero (L 0)) (Fin.cast bound_one (L 1))

/-- The task's four rows, as the body addresses them. -/
abbrev rowsK (L : grid1.Coords) : Rect S128x128 := Rect.unit (s := S128x128) (k1_off1 L) S4x128.size (k1_off1_inb L)

theorem rowsK_eq : rowsK L = rowR (wL L) := by
  unfold rowsK rowR Rect.part Rect.block
  congr 1 <;> funext a
  · rw [k1_off1_eq]
    match a with
    | 0 =>
      have h0 : (Fin.cast bound_zero (L 0)).val = (L 0).val := rfl
      have h1 : (Fin.cast bound_one (L 1)).val = (L 1).val := rfl
      simp only [Shape.partIx, Shape.partSize, wid, h0, h1, Matrix.cons_val_zero, if_true]; change _ = (2 * (L 1).val + (L 0).val) * 4; omega
    | 1 => simp [Shape.partIx, Shape.partSize]
  · match a with
    | 0 => simp [Shape.partSize]
    | 1 => simp [Shape.partSize]

/-- Row `r` of a four-row buffer, as the gathers address it. -/
abbrev rowInb (r : Fin 4) : ∀ a, (![r.val, 0] : Fin 2 → Nat) a + S1x128.size a ≤ S4x128.size a := by
  intro a
  match a with
  | 0 => simp
  | 1 => exact le_refl 128
abbrev rowM {e : EltTy} (M : Memref sig .scVector .vmem S4x128 e) (r : Fin 4) : Memref sig .scVector .vmem S128 e :=
  (M.slice (Rect.unit (s := S4x128) ![r.val, 0] S1x128.size (rowInb r)) (fun _ => rfl)).squeeze S128 squeezes_S1x128_S128
abbrev allM (M : Memref sig .scVector .hbm S1000000 .f32) : Memref sig .scVector .hbm S1000000 .f32 :=
  M.slice (Rect.unit (s := S1000000) ![0] S1000000.size inb_S1000000_S1000000_0) (fun _ => rfl)

theorem rowK_eq (r : Fin 4) : Rect.unit (s := S4x128) ![r.val, 0] S1x128.size (rowInb r) = S4x128.rowRect 0 r := by
  unfold Shape.rowRect
  congr 1 <;> funext a
  · match a with
    | 0 => rfl
    | 1 => rfl
  · match a with
    | 0 => rfl
    | 1 => rfl

theorem set_rowM {e : EltTy} (M : Memref sig .scVector .vmem S4x128 e) (r : Fin 4) :
    (rowM M r).view.set = (M.view.slice (S4x128.rowRect 0 r)).set := by
  have h1 : (rowM M r).view.set = (Rect.unit (s := S4x128) ![r.val, 0] S1x128.size (rowInb r)).set.map M.view.emb :=
    (View.set_reshape (M.view.slice (Rect.unit (s := S4x128) ![r.val, 0] S1x128.size (rowInb r))) squeezes_S1x128_S128.numel_eq).trans
      (View.set_slice M.view _)
  have h2 : (Rect.unit (s := S4x128) ![r.val, 0] S1x128.size (rowInb r)).set.map M.view.emb = (S4x128.rowRect 0 r).set.map M.view.emb := by
    rw [rowK_eq]
  exact (h1.trans h2).trans (View.set_slice M.view (S4x128.rowRect 0 r)).symm

/-- A four-row buffer is its four rows. -/
theorem pts_rows {e : EltTy} (M : Memref sig .scVector .vmem S4x128 e) (q : PosShare TreeShare) (f : Buf (Elt F) (M.view.loc (V d (cV L) (jV L)))) :
    (M.view.loc (V d (cV L) (jV L)) ↦[M.view.set]{q} f : sProp 𝕄)
      = bigSep Finset.univ fun r : Fin 4 => (rowM M r).view.loc (V d (cV L) (jV L)) ↦[(rowM M r).view.set]{q} f := by
  rw [pointsTo_rows (V d (cV L) (jV L)) M.view 0 q f]
  refine bigSep_congr fun r _ => ?_
  exact congrArg (fun I : Finset (Idx (M.view.loc (V d (cV L) (jV L)))) => (M.view.loc (V d (cV L) (jV L)) ↦[I]{q} f : sProp 𝕄)) (set_rowM M r).symm

/-! ## The task's own cells and buffers -/

abbrev gCell : GSem nD τ sig := (V d (cV L) (jV L), .dma cc1_scratch4.sem)
abbrev aCell : GSem nD τ sig := (V d (cV L) (jV L), .dma cc1_scoped0.sem)
abbrev bCell : GSem nD τ sig := (V d (cV L) (jV L), .dma cc1_scoped1.sem)
abbrev eCell : GSem nD τ sig := (V d (cV L) (jV L), .dma cc1_scoped2.sem)

theorem ownSems0_V :
    (ownSems0 (V d (cV L) (jV L)) : sProp 𝕄)
      = iprop(semVal (gCell d L) 0 ∗ semVal (aCell d L) 0 ∗ semVal (bCell d L) 0 ∗ semVal (eCell d L) 0
          ∗ bigSep (((((ownCells (V d (cV L) (jV L))).erase (gCell d L)).erase (aCell d L)).erase (bCell d L)).erase (eCell d L)) fun g => semVal g 0) := by
  have hm : ∀ s : DmaSem sig, (SemLoc.dma s : SemLoc sig).isScoped .scVector = true → (V d (cV L) (jV L), SemLoc.dma s) ∈ ownCells (V d (cV L) (jV L)) :=
    fun s h => mem_ownCells.mpr ⟨rfl, h⟩
  unfold SparseCore.Cfg.ownSems0
  rw [SparseCore.bigSep_erase' (hm cc1_scratch4.sem (by decide)),
    SparseCore.bigSep_erase' (Finset.mem_erase.mpr ⟨by simp; decide, hm cc1_scoped0.sem (by decide)⟩),
    SparseCore.bigSep_erase' (Finset.mem_erase.mpr ⟨by simp; decide, Finset.mem_erase.mpr ⟨by simp; decide, hm cc1_scoped1.sem (by decide)⟩⟩),
    SparseCore.bigSep_erase' (Finset.mem_erase.mpr ⟨by simp; decide, Finset.mem_erase.mpr ⟨by simp; decide,
      Finset.mem_erase.mpr ⟨by simp; decide, hm cc1_scoped2.sem (by decide)⟩⟩⟩)]

abbrev dref (b : Ref sig .scVector) : DevRef τ sig := (Proc.scVector (cV L) (jV L)).devRef b

theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f) ∗ (∃ f, (V d (cV L) (jV L)).loc cc1_scratch3 ↦{fullShare} f)
          ∗ bigSep (((((ownRefs (τ := τ) (.scVector (cV L) (jV L))).erase (dref L cc1_scratch0)).erase (dref L cc1_scratch1)).erase (dref L cc1_scratch2)).erase (dref L cc1_scratch3))
              fun b => iprop(∃ f, ((d, b) : Loc nD τ sig) ↦{fullShare} f)) := by
  have hne : ∀ {a b : Ref sig .scVector}, a ≠ b → dref L a ≠ dref L b := fun h e => h (Proc.devRef_injective _ e)
  unfold SparseCore.Cfg.ownBufs
  refine (SparseCore.bigSep_erase' (SparseCore.Cfg.mem_ownRefs_of_owner (p := Proc.scVector (cV L) (jV L))
    (b := dref L cc1_scratch0) rfl)).trans ?_
  rw [SparseCore.bigSep_erase' (Finset.mem_erase.mpr ⟨hne (by decide), SparseCore.Cfg.mem_ownRefs_of_owner (p := Proc.scVector (cV L) (jV L)) (b := dref L cc1_scratch1) rfl⟩),
    SparseCore.bigSep_erase' (Finset.mem_erase.mpr ⟨hne (by decide), Finset.mem_erase.mpr ⟨hne (by decide),
      SparseCore.Cfg.mem_ownRefs_of_owner (p := Proc.scVector (cV L) (jV L)) (b := dref L cc1_scratch2) rfl⟩⟩),
    SparseCore.bigSep_erase' (Finset.mem_erase.mpr ⟨hne (by decide), Finset.mem_erase.mpr ⟨hne (by decide), Finset.mem_erase.mpr ⟨hne (by decide),
      SparseCore.Cfg.mem_ownRefs_of_owner (p := Proc.scVector (cV L) (jV L)) (b := dref L cc1_scratch3) rfl⟩⟩⟩)]

/-! ## What the gathers read and leave -/

/-- What the task's fetch of row numbers lands, and of values. -/
def iG (fI : Buf (Elt F) (iLoc d)) : S4x128.Idx → BitVec 32 := fun y => fI ((rowsK L).emb y)
def cG (fC : Buf (Elt F) (cLoc d)) : S4x128.Idx → F .f32 := fun y => fC ((rowsK L).emb y)
/-- What the gathers of a table leave. -/
def tG (fI : Buf (Elt F) (iLoc d)) (f : S1000000.Idx → F .f32) : S4x128.Idx → F .f32 := fun y => f (rowAt (iG d L fI y))

theorem rows_idx (w : S128.Idx → Elt F .i32) (hw : ∀ x, (w x).toNat < S1000000.size gathers_S1000000_S128.axis) (x : S128.Idx) :
    gathers_S1000000_S128.idx (rows w rfl hw) x = rowAt (w x) := by
  funext a
  match a with
  | 0 =>
    refine Fin.ext ?_
    have h := Shape.Gathers.idx_axis gathers_S1000000_S128 (rows w rfl hw) x
    refine (congrArg Fin.val h).trans ?_
    have hx : S128.rowMajor.symm ((x gathers_S1000000_S128.axis').cast rfl) = x :=
      (Equiv.symm_apply_eq _).mpr (Fin.ext (Shape.rowMajor_val_one x).symm)
    unfold SparseCore.rows rowAt
    have hlt := hw x
    refine (congrArg (fun z => (w z).toNat) hx).trans ?_
    change (w x).toNat = min (w x).toNat 999999
    change _ < 1000000 at hlt
    omega

/-! ## The eight gathers as one batch -/

section Batch
variable (fI : Buf (Elt F) (iLoc d)) (fL : Buf (Elt F) (lLoc d)) (fX : Buf (Elt F) (xLoc d))
variable (fg fx : Buf (Elt F) ((V d (cV L) (jV L)).loc cc1_scratch2))

/-- The numbers of row `r`, as its gathers read them. -/
def nums (r : Fin 4) : S128.Idx → Elt F .i32 := (rowM iB r).view.read (Elt F) (iG d L fI)

variable (hin : ∀ (r : Fin 4) (x : S128.Idx), (nums (F := F) d L fI r x).toNat < S1000000.size gathers_S1000000_S128.axis)

abbrev q4 (L : grid1.Coords) (r : Fin 4) : PosShare TreeShare := pieceOf (tq (wL L)) 4 (by decide) r

/-- Delivery `i` of the gather of row `r` of the logits; of the centres. -/
def delL (r : Fin 4) (i : Fin 128) : sProp 𝕄 :=
  rowBack (V d (cV L) (jV L)) (allM lM) (rowM gB r) gathers_S1000000_S128 (rowM iB r) rfl (q4 L r) fullShare.left fL fg (iG d L fI) (by decide)
    (rows (nums (F := F) d L fI r) rfl (hin r)) i
def delX (r : Fin 4) (i : Fin 128) : sProp 𝕄 :=
  rowBack (V d (cV L) (jV L)) (allM xM) (rowM xB r) gathers_S1000000_S128 (rowM iB r) rfl (q4 L r) fullShare.right fX fx (iG d L fI) (by decide)
    (rows (nums (F := F) d L fI r) rfl (hin r)) i

instance (r : Fin 4) (i : Fin 128) : Storable (upEmb : UEmb _ 𝕄) (delL d L fI fL fg hin r i) := by
  unfold delL; exact rowBack_storable _ _ _ _ _ _ _ _ _ _ _ _ _ _
instance (r : Fin 4) (i : Fin 128) : Storable (upEmb : UEmb _ 𝕄) (delX d L fI fX fx hin r i) := by
  unfold delX; exact rowBack_storable _ _ _ _ _ _ _ _ _ _ _ _ _ _

/-- The deliveries of gather `x` of the eight: the logits' row `x / 2` when `x` is even, the centres' when it is odd. -/
def delG (x : Fin 8) (i : Fin 128) : sProp 𝕄 :=
  if x.val % 2 = 0 then delL d L fI fL fg hin ⟨x.val / 2, by omega⟩ i else delX d L fI fX fx hin ⟨x.val / 2, by omega⟩ i
instance (x : Fin 8) (i : Fin 128) : Storable (upEmb : UEmb _ 𝕄) (delG d L fI fL fX fg fx hin x i) := by
  unfold delG; split <;> infer_instance

/-- The batch's deliveries, in issue order. -/
def del (t : Fin 1024) : sProp 𝕄 := delG d L fI fL fX fg fx hin ⟨t.val / 128, by omega⟩ ⟨t.val % 128, by omega⟩
instance (t : Fin 1024) : Storable (upEmb : UEmb _ 𝕄) (del d L fI fL fX fg fx hin t) := by unfold del; infer_instance

theorem del_at (x : Fin 8) (i : Fin 128) (h : 128 * x.val + i.val < 1024) :
    del d L fI fL fX fg fx hin ⟨128 * x.val + i.val, h⟩ = delG d L fI fL fX fg fx hin x i := by
  unfold del
  congr 1 <;> refine Fin.ext ?_ <;> simp only <;> omega

/-! ## What a gather leaves in its row -/

theorem allM_emb (b : Ref sig .scVector) (z : S1000000.Idx) :
    (Rect.unit (s := S1000000) ![0] S1000000.size inb_S1000000_S1000000_0).emb z = z := by
  funext a
  match a with
  | 0 => exact Fin.ext (by change 0 + 1 * (z 0).val = (z 0).val; omega)

theorem read_allL : (allM lM).view.read (Elt F) fL = fL := by
  funext z; exact congrArg fL (allM_emb main_arg0_scv z)
theorem read_allX : (allM xM).view.read (Elt F) fX = fX := by
  funext z; exact congrArg fX (allM_emb main_arg1_scv z)
theorem set_allL : (allM lM).view.set = Finset.univ := by
  refine Finset.eq_univ_of_forall fun z => ?_
  exact Finset.mem_map.mpr ⟨z, Finset.mem_univ z, allM_emb main_arg0_scv z⟩
theorem set_allX : (allM xM).view.set = Finset.univ := by
  refine Finset.eq_univ_of_forall fun z => ?_
  exact Finset.mem_map.mpr ⟨z, Finset.mem_univ z, allM_emb main_arg1_scv z⟩

/-- Entry `x` of a gathered row is the table's entry that number `x` of the row names. -/
theorem payload_at (f : S1000000.Idx → F .f32) (r : Fin 4) (x : S128.Idx) :
    gatherPayload (F := F) (e := .f32) gathers_S1000000_S128 f (rows (nums (F := F) d L fI r) rfl (hin r)) x
      = tG d L fI f ((rowM iB r).view.emb x) :=
  congrArg f (rows_idx (nums (F := F) d L fI r) (hin r) x)

/-- The row of the logits' buffer after its gather; of the centres' buffer. -/
theorem gatheredL (r : Fin 4) :
    ((rowM gB r).view.loc (V d (cV L) (jV L)) ↦[(rowM gB r).view.set]{fullShare}
        (rowM gB r).view.write (Elt F) fg (gatherPayload gathers_S1000000_S128 ((allM lM).view.read (Elt F) fL) (rows (nums (F := F) d L fI r) rfl (hin r))) Finset.univ : sProp 𝕄)
      = (rowM gB r).view.loc (V d (cV L) (jV L)) ↦[(rowM gB r).view.set]{fullShare} tG d L fI fL := by
  refine pointsTo_congr fun y hy => ?_
  obtain ⟨x, -, rfl⟩ := Finset.mem_map.mp hy
  refine (View.write_emb_of_mem _ _ (Finset.mem_univ x)).trans ?_
  rw [read_allL]
  exact payload_at d L fI hin fL r x
theorem gatheredX (r : Fin 4) :
    ((rowM xB r).view.loc (V d (cV L) (jV L)) ↦[(rowM xB r).view.set]{fullShare}
        (rowM xB r).view.write (Elt F) fx (gatherPayload gathers_S1000000_S128 ((allM xM).view.read (Elt F) fX) (rows (nums (F := F) d L fI r) rfl (hin r))) Finset.univ : sProp 𝕄)
      = (rowM xB r).view.loc (V d (cV L) (jV L)) ↦[(rowM xB r).view.set]{fullShare} tG d L fI fX := by
  refine pointsTo_congr fun y hy => ?_
  obtain ⟨x, -, rfl⟩ := Finset.mem_map.mp hy
  refine (View.write_emb_of_mem _ _ (Finset.mem_univ x)).trans ?_
  rw [read_allX]
  exact payload_at d L fI hin fX r x

end Batch

/-! ## Sixteen entries at a time -/

/-- The gathered logits with the first `n` of the 32 stretches of sixteen entries computed. -/
def mix (C X G : S4x128.Idx → F .f32) (n : ℕ) : S4x128.Idx → F .f32 :=
  fun y => if (y 0).val * 8 + (y 1).val / 16 < n then entryOf (C y) (X y) (G y) else G y

abbrev off16 (n : ℕ) : Fin 2 → ℕ := ![n / 8, 16 * (n % 8)]

theorem off16_inb {n : ℕ} (hn : n < 32) : ∀ a, off16 n a + S1x16.size a ≤ S4x128.size a := by
  intro a
  match a with
  | 0 => change n / 8 + 1 ≤ 4; omega
  | 1 => change 16 * (n % 8) + 16 ≤ 128; omega

/-- One write through a rectangle of the row buffer: the new contents agree with `g` on it, the old off it. -/
theorem writes_one (R : Rect S4x128) (w : R.shape.Idx → F .f32) (f g : S4x128.Idx → F .f32)
    (hw : ∀ x, w x = g (R.emb x)) (ho : ∀ y, y ∉ R.set → f y = g y) : gB.view.writes (Elt F) f [⟨R, w⟩] = g := by
  funext y
  by_cases hy : y ∈ R.set
  · obtain ⟨x, rfl⟩ := R.exists_idx_of_mem hy
    exact (View.read_writes_cons_emb (Val := Elt F) gB.view f R w [] x).trans (hw x)
  · exact (View.read_writes_cons_miss (Val := Elt F) gB.view f ⟨R, w⟩ [] y hy).trans (ho y hy)

/-- The stretch of entry `y`. -/
abbrev strip (y : S4x128.Idx) : ℕ := (y 0).val * 8 + (y 1).val / 16

theorem mem_off16 (n : ℕ) (hb : ∀ a, off16 n a + S1x16.size a ≤ S4x128.size a) (y : S4x128.Idx) :
    y ∈ (Rect.unit (s := S4x128) (off16 n) S1x16.size hb).set ↔ strip y = n := by
  rw [Rect.mem_set_unit]
  have h1 : (y 1).val < 128 := (y 1).isLt
  unfold strip
  constructor
  · intro h
    have h0 : n / 8 ≤ (y 0).val ∧ (y 0).val < n / 8 + 1 := h 0
    have h2 : 16 * (n % 8) ≤ (y 1).val ∧ (y 1).val < 16 * (n % 8) + 16 := h 1
    omega
  · intro h a
    match a with
    | 0 => change n / 8 ≤ (y 0).val ∧ (y 0).val < n / 8 + 1; omega
    | 1 => change 16 * (n % 8) ≤ (y 1).val ∧ (y 1).val < 16 * (n % 8) + 16; omega

theorem strip_emb (n : ℕ) (hb : ∀ a, off16 n a + S1x16.size a ≤ S4x128.size a) (x : S1x16.Idx) :
    strip ((Rect.unit (s := S4x128) (off16 n) S1x16.size hb).emb x) = n :=
  (mem_off16 n hb _).mp (by rw [← Rect.map_emb_univ]; exact Finset.mem_map_of_mem _ (Finset.mem_univ x))

theorem mix_succ (C X G : S4x128.Idx → F .f32) (n : ℕ) (y : S4x128.Idx) (h : strip y = n) : mix C X G (n + 1) y = entryOf (C y) (X y) (mix C X G n y) := by
  have h1 : mix C X G n y = G y := if_neg (by change ¬ strip y < n; omega)
  rw [h1]
  exact if_pos (by change strip y < n + 1; omega)

theorem mix_off (C X G : S4x128.Idx → F .f32) (n : ℕ) (y : S4x128.Idx) (h : strip y ≠ n) : mix C X G n y = mix C X G (n + 1) y := by
  unfold mix
  by_cases hlt : strip y < n
  · rw [if_pos hlt, if_pos (by change strip y < n + 1; omega)]
  · rw [if_neg hlt, if_neg (by change ¬ strip y < n + 1; omega)]

theorem mix_step (C X G : S4x128.Idx → F .f32) (n : ℕ)
    (hb : ∀ a, off16 n a + S1x16.size a ≤ S4x128.size a) (w : Vec F S1x16 .f32)
    (hw : ∀ y, w y = entryOf (C ((Rect.unit (s := S4x128) (off16 n) S1x16.size hb).emb y)) (X ((Rect.unit (s := S4x128) (off16 n) S1x16.size hb).emb y))
      (mix C X G n ((Rect.unit (s := S4x128) (off16 n) S1x16.size hb).emb y))) :
    gB.view.writes (Elt F) (mix C X G n) [⟨Rect.unit (s := S4x128) (off16 n) S1x16.size hb, w⟩] = mix C X G (n + 1) :=
  writes_one _ _ _ _ (fun x => (hw x).trans (mix_succ C X G n _ (strip_emb n hb x)).symm)
    fun y hy => mix_off C X G n y fun h => hy ((mem_off16 n hb y).mpr h)

theorem mix_zero (C X G : S4x128.Idx → F .f32) : mix C X G 0 = G := funext fun _ => if_neg (Nat.not_lt_zero _)

theorem mix_all (C X G : S4x128.Idx → F .f32) (y : S4x128.Idx) : mix C X G 32 y = entryOf (C y) (X y) (G y) := by
  have h0 : (y 0).val < 4 := (y 0).isLt
  have h1 : (y 1).val < 128 := (y 1).isLt
  exact if_pos (by omega)

end Task

end Cert.Proof.Run

end
-- ==== Proof.Steps.lean ====
/-
  The gathers' batch step by step.
-/
module

public import proofs.«01_k».proof.Proof.Tile
public import Idealize.ShloMosaic.Lib.Pipeline.Value

@[expose] public section

noncomputable section

namespace Cert.Proof.Run

open Cert.KernelIdeal Cert.KernelIdeal.Gen

open Idealize.ShloMosaic
open Idealize.ShloMosaic.SparseCore (S V T rows gatherPayload)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.GatherBatch

variable {F : FTy → Type} [FloatOps F] [Named F]

local notation "𝕄" => MT nD τ sig (HIx 1) (Elt F) ℕ UU ℕ

section Task

variable (d : Dev nD) (L : grid1.Coords)

section Batch
variable (fI : Buf (Elt F) (iLoc d)) (fL : Buf (Elt F) (lLoc d)) (fX : Buf (Elt F) (xLoc d))
variable (fg fx : Buf (Elt F) ((V d (cV L) (jV L)).loc cc1_scratch2))
variable (hin : ∀ (r : Fin 4) (x : S128.Idx), (nums (F := F) d L fI r x).toNat < S1000000.size gathers_S1000000_S128.axis)

/-! ## The batch's steps -/

/-- The credit of one gathered entry. -/
abbrev N1 : ℕ := 32

/-- The eight gathers' batch with `j` entries issued and `u` units waited for. -/
abbrev GB (j u : ℕ) : sProp 𝕄 := Transfers.Batch countersEmb (V d (cV L) (jV L)) (.dma cc1_scratch4.sem) (default : HIx 1) N1 (del d L fI fL fX fg fx hin) j u

/-- What the logits' gather of row `r` takes: its piece of the table's share, its row of the buffer, half of its numbers. -/
def preL (r : Fin 4) : sProp 𝕄 :=
  iprop(((allM lM).view.loc (V d (cV L) (jV L)) ↦[(allM lM).view.set]{q4 L r} fL)
    ∗ ((rowM gB r).view.loc (V d (cV L) (jV L)) ↦[(rowM gB r).view.set]{fullShare} fg)
    ∗ ((rowM iB r).view.loc (V d (cV L) (jV L)) ↦[(rowM iB r).view.set]{fullShare.left} iG d L fI))
/-- What the centres' gather takes. -/
def preX (r : Fin 4) : sProp 𝕄 :=
  iprop(((allM xM).view.loc (V d (cV L) (jV L)) ↦[(allM xM).view.set]{q4 L r} fX)
    ∗ ((rowM xB r).view.loc (V d (cV L) (jV L)) ↦[(rowM xB r).view.set]{fullShare} fx)
    ∗ ((rowM iB r).view.loc (V d (cV L) (jV L)) ↦[(rowM iB r).view.set]{fullShare.right} iG d L fI))

/-- The logits' gather of row `r` in the batch's list. -/
theorem del_L (r : Fin 4) (i : Fin 128) (h : 128 * (2 * r.val) + i.val < 1024) :
    del d L fI fL fX fg fx hin ⟨128 * (2 * r.val) + i.val, h⟩ = delL d L fI fL fg hin r i := by
  refine (del_at d L fI fL fX fg fx hin ⟨2 * r.val, by omega⟩ i h).trans ?_
  unfold delG
  rw [if_pos (by change (2 * r.val) % 2 = 0; omega)]
  have hr : (⟨(2 * r.val) / 2, by omega⟩ : Fin 4) = r := Fin.ext (by change (2 * r.val) / 2 = r.val; omega)
  exact congrArg (fun r' => delL d L fI fL fg hin r' i) hr

/-- Issuing the logits' gather of row `r`: the batch's gather `2 * r.val`. -/
theorem wp_gatherL {α : Type} {Q : α → sProp 𝕄} (r : Fin 4) (j : ℕ) (hj : j = 128 * (2 * r.val)) {hp hsrc he hsp hr}
    {k : PUnit → Prog (TpuEff nD τ sig (Elt F) Λ₀ (V d (cV L) (jV L)).2) α} :
    iprop(preL d L fI fL fg r ∗ GB d L fI fL fX fg fx hin j 0)
      ⊢ iprop((GB d L fI fL fX fg fx hin (j + 128) 0 -∗ wp frame (wpE (defs₀ (F := F)) 𝒱₀ (V d (cV L) (jV L)) none) Set.univ (k ⟨⟩) Q)
          -∗ wp frame (wpE (defs₀ (F := F)) 𝒱₀ (V d (cV L) (jV L)) none) Set.univ
            (SparseCore.enqueueIndirectGather hp (allM lM) (rowM gB r) gathers_S1000000_S128 (rowM iB r) rfl cc1_scratch4.sem hsrc he hsp hr >>= k) Q) := by
  subst hj
  have hN : ∀ j, ((rowM gB r).slice (S128.rowRect gathers_S1000000_S128.axis' j) (S128.stride_rowRect gathers_S1000000_S128.axis' j)).view.dmaCredit = N1 :=
    fun _ => rfl
  have hD : ∀ i : Fin 128, delL d L fI fL fg hin r i ⊢ del d L fI fL fX fg fx hin ⟨128 * (2 * r.val) + i.val, by omega⟩ :=
    fun i => Entails.of_eq (del_L d L fI fL fX fg fx hin r i _).symm
  have h := wp_issue (Q := Q) (k := k) (src := allM lM) (dst := rowM gB r) (hg := gathers_S1000000_S128) (offs := rowM iB r) (hn := rfl)
    (q := q4 L r) (qo := fullShare.left) (fs := fL) (fd := fg) (fo := iG d L fI) (D := del d L fI fL fX fg fx hin) (j := 128 * (2 * r.val)) (u := 0)
    (sem := cc1_scratch4.sem) (hp := hp) (hsrc := hsrc) (he := he) (hsp := hsp) (hr := hr) (defs := defs₀ (F := F))
    countersEmb 𝒱₀ (V d (cV L) (jV L)) none (default : HIx 1) N1 hN (by decide) (hin r)
    (by change 128 * (2 * r.val) + 128 ≤ 1024; omega) (Nat.zero_le _) hD
  unfold preL
  iintro ⟨⟨Hs, Hd, Ho⟩, HB⟩ Hk
  iapply h $$ [Hs Hd Ho HB]
  · isplitl [Hs]; · iexact Hs
    isplitl [Hd]; · iexact Hd
    isplitl [Ho]; · iexact Ho
    iexact HB
  iexact Hk

/-- The centres' gather of row `r` in the batch's list. -/
theorem del_X (r : Fin 4) (i : Fin 128) (h : 128 * (2 * r.val + 1) + i.val < 1024) :
    del d L fI fL fX fg fx hin ⟨128 * (2 * r.val + 1) + i.val, h⟩ = delX d L fI fX fx hin r i := by
  refine (del_at d L fI fL fX fg fx hin ⟨2 * r.val + 1, by omega⟩ i h).trans ?_
  unfold delG
  rw [if_neg (by change ¬ (2 * r.val + 1) % 2 = 0; omega)]
  have hr : (⟨(2 * r.val + 1) / 2, by omega⟩ : Fin 4) = r := Fin.ext (by change (2 * r.val + 1) / 2 = r.val; omega)
  exact congrArg (fun r' => delX d L fI fX fx hin r' i) hr

/-- Issuing the centres' gather of row `r`: the batch's gather `2 * r.val + 1`. -/
theorem wp_gatherX {α : Type} {Q : α → sProp 𝕄} (r : Fin 4) (j : ℕ) (hj : j = 128 * (2 * r.val + 1)) {hp hsrc he hsp hr}
    {k : PUnit → Prog (TpuEff nD τ sig (Elt F) Λ₀ (V d (cV L) (jV L)).2) α} :
    iprop(preX d L fI fX fx r ∗ GB d L fI fL fX fg fx hin j 0)
      ⊢ iprop((GB d L fI fL fX fg fx hin (j + 128) 0 -∗ wp frame (wpE (defs₀ (F := F)) 𝒱₀ (V d (cV L) (jV L)) none) Set.univ (k ⟨⟩) Q)
          -∗ wp frame (wpE (defs₀ (F := F)) 𝒱₀ (V d (cV L) (jV L)) none) Set.univ
            (SparseCore.enqueueIndirectGather hp (allM xM) (rowM xB r) gathers_S1000000_S128 (rowM iB r) rfl cc1_scratch4.sem hsrc he hsp hr >>= k) Q) := by
  subst hj
  have hN : ∀ j, ((rowM xB r).slice (S128.rowRect gathers_S1000000_S128.axis' j) (S128.stride_rowRect gathers_S1000000_S128.axis' j)).view.dmaCredit = N1 :=
    fun _ => rfl
  have hD : ∀ i : Fin 128, delX d L fI fX fx hin r i ⊢ del d L fI fL fX fg fx hin ⟨128 * (2 * r.val + 1) + i.val, by omega⟩ :=
    fun i => Entails.of_eq (del_X d L fI fL fX fg fx hin r i _).symm
  have h := wp_issue (Q := Q) (k := k) (src := allM xM) (dst := rowM xB r) (hg := gathers_S1000000_S128) (offs := rowM iB r) (hn := rfl)
    (q := q4 L r) (qo := fullShare.right) (fs := fX) (fd := fx) (fo := iG d L fI) (D := del d L fI fL fX fg fx hin) (j := 128 * (2 * r.val + 1)) (u := 0)
    (sem := cc1_scratch4.sem) (hp := hp) (hsrc := hsrc) (he := he) (hsp := hsp) (hr := hr) (defs := defs₀ (F := F))
    countersEmb 𝒱₀ (V d (cV L) (jV L)) none (default : HIx 1) N1 hN (by decide) (hin r)
    (by change 128 * (2 * r.val + 1) + 128 ≤ 1024; omega) (Nat.zero_le _) hD
  unfold preX
  iintro ⟨⟨Hs, Hd, Ho⟩, HB⟩ Hk
  iapply h $$ [Hs Hd Ho HB]
  · isplitl [Hs]; · iexact Hs
    isplitl [Hd]; · iexact Hd
    isplitl [Ho]; · iexact Ho
    iexact HB
  iexact Hk

/-- The batch, all issued, with `m` of its eight waits to go. -/
def Left (m : ℕ) : sProp 𝕄 := iprop(⌜m ≤ 8⌝ ∗ GB d L fI fL fX fg fx hin 1024 ((8 - m) * (128 * N1)))

/-- One of the eight waits: a row's 128 units. -/
theorem wp_gatherWait {α : Type} {Q : α → sProp 𝕄} {m : ℕ}
    {src : Memref sig .scVector .hbm S1000000 .f32} {dst : Memref sig .scVector .vmem S128 .f32} {hsrc hdst}
    {O : CellTallies nD τ sig (HIx 1)} {W : Waits sig (HIx 1)}
    {k : PUnit → Prog (TpuEff nD τ sig (Elt F) Λ₀ (V d (cV L) (jV L)).2) α} :
    iprop(⌜dst.view.dmaCredit = 128 * N1⌝ ∗ Left d L fI fL fX fg fx hin (m + 1) ∗ owes (V d (cV L) (jV L)) O W
        ∗ Transfers.MayWaits (V d (cV L) (jV L)) (default : HIx 1) O)
      ⊢ iprop((iprop(Left d L fI fL fX fg fx hin m ∗ owes (V d (cV L) (jV L)) O (insert (SemLoc.dma cc1_scratch4.sem, (default : HIx 1)) W))
            -∗ wp frame (wpE (defs₀ (F := F)) 𝒱₀ (V d (cV L) (jV L)) none) Set.univ (k ⟨⟩) Q)
          -∗ wp frame (wpE (defs₀ (F := F)) 𝒱₀ (V d (cV L) (jV L)) none) Set.univ
            (SparseCore.waitIndirectGather cc1_scratch4.sem src dst hsrc hdst >>= k) Q) := by
  unfold Left
  iintro ⟨%hJ, ⟨%hm, HB⟩, HO, Hmw⟩ Hk
  simp only [SparseCore.waitIndirectGather]
  have hu : (8 - (m + 1)) * (128 * N1) + 128 * N1 ≤ N1 * 1024 := by change (8 - (m + 1)) * (128 * 32) + 128 * 32 ≤ 32 * 1024; omega
  have hnext : (8 - (m + 1)) * (128 * N1) + 128 * N1 = (8 - m) * (128 * N1) := by change (8 - (m + 1)) * (128 * 32) + 128 * 32 = (8 - m) * (128 * 32); omega
  iapply (Transfers.wp_waitBatchMulO countersEmb 𝒱₀ (V d (cV L) (jV L)) none (default : HIx 1) 128 hJ hu) $$ [HB HO Hmw]
  · isplitl [HB]; · iexact HB
    isplitl [HO]; · iexact HO
    iapply (Transfers.MayWaits.elim (SemLoc.dma cc1_scratch4.sem)) $$ Hmw
  rw [hnext]
  iintro ⟨HB, HO⟩
  iapply Hk
  isplitl [HB]
  · isplitr; · ipureintro; omega
    iexact HB
  iexact HO

/-- Gather `r`'s 128 deliveries together. -/
theorem joinL (r : Fin 4) : bigSep Finset.univ (delL d L fI fL fg hin r)
      ⊢ iprop(((rowM gB r).view.loc (V d (cV L) (jV L)) ↦[(rowM gB r).view.set]{fullShare} tG d L fI fL : sProp 𝕄)
        ∗ ((rowM iB r).view.loc (V d (cV L) (jV L)) ↦[(rowM iB r).view.set]{fullShare.left} iG d L fI) ∗ (lLoc d ↦{q4 L r} fL)) := by
  refine (rowBack_join (U := UU) (Lvl := ℕ) (Name := ℕ) (Ix := HIx 1) (V d (cV L) (jV L)) (allM lM) (rowM gB r) gathers_S1000000_S128 (rowM iB r) rfl
    (q4 L r) fullShare.left fL fg (iG d L fI) (by decide) (rows (nums (F := F) d L fI r) rfl (hin r))).trans ?_
  rw [gatheredL, set_allL]

/-- Gather `r`'s 128 deliveries together. -/
theorem joinX (r : Fin 4) : bigSep Finset.univ (delX d L fI fX fx hin r)
      ⊢ iprop(((rowM xB r).view.loc (V d (cV L) (jV L)) ↦[(rowM xB r).view.set]{fullShare} tG d L fI fX : sProp 𝕄)
        ∗ ((rowM iB r).view.loc (V d (cV L) (jV L)) ↦[(rowM iB r).view.set]{fullShare.right} iG d L fI) ∗ (xLoc d ↦{q4 L r} fX)) := by
  refine (rowBack_join (U := UU) (Lvl := ℕ) (Name := ℕ) (Ix := HIx 1) (V d (cV L) (jV L)) (allM xM) (rowM xB r) gathers_S1000000_S128 (rowM iB r) rfl
    (q4 L r) fullShare.right fX fx (iG d L fI) (by decide) (rows (nums (F := F) d L fI r) rfl (hin r))).trans ?_
  rw [gatheredX, set_allX]

/-- A whole four-row buffer is its four rows. -/
theorem whole_rows {e : EltTy} (M : Memref sig .scVector .vmem S4x128 e) (hM : M.view.set = Finset.univ) (q : PosShare TreeShare)
    (f : Buf (Elt F) (M.view.loc (V d (cV L) (jV L)))) :
    (M.view.loc (V d (cV L) (jV L)) ↦{q} f : sProp 𝕄)
      = bigSep Finset.univ fun r : Fin 4 => (rowM M r).view.loc (V d (cV L) (jV L)) ↦[(rowM M r).view.set]{q} f := by
  rw [← pts_rows, hM]

/-- All 1024 deliveries: the logits' four rows and the centres' four. -/
theorem del_all : bigSep Finset.univ (del d L fI fL fX fg fx hin)
      = iprop((bigSep Finset.univ fun r : Fin 4 => bigSep Finset.univ (delL d L fI fL fg hin r))
        ∗ bigSep Finset.univ fun r : Fin 4 => bigSep Finset.univ (delX d L fI fX fx hin r)) := by
  rw [deliveries_groups (g := 8) (o := 128) rfl, deliveries_groups (g := 4) (o := 2) rfl, ← bigSep_sep']
  refine bigSep_congr fun r _ => ?_
  rw [bigSep_univ_two]
  have hL : (bigSep Finset.univ fun i : Fin 128 => del d L fI fL fX fg fx hin ⟨128 * (2 * r.val) + i.val, by omega⟩)
      = bigSep Finset.univ (delL d L fI fL fg hin r) := bigSep_congr fun i _ => del_L d L fI fL fX fg fx hin r i _
  have hX : (bigSep Finset.univ fun i : Fin 128 => del d L fI fL fX fg fx hin ⟨128 * (2 * r.val + 1) + i.val, by omega⟩)
      = bigSep Finset.univ (delX d L fI fX fx hin r) := bigSep_congr fun i _ => del_X d L fI fL fX fg fx hin r i _
  exact congrArg₂ (fun A B : sProp 𝕄 => iprop(A ∗ B)) hL hX

/-- The drained batch: both buffers hold their gathers, the numbers' buffer and the tables' shares are back. -/
theorem batch_done : Left d L fI fL fX fg fx hin 0
      ⊢ (|={Set.univ}=> iprop((gB.view.loc (V d (cV L) (jV L)) ↦{fullShare} tG d L fI fL) ∗ (xB.view.loc (V d (cV L) (jV L)) ↦{fullShare} tG d L fI fX)
          ∗ (iB.view.loc (V d (cV L) (jV L)) ↦{fullShare} iG d L fI)
          ∗ (lLoc d ↦{tq (wL L)} fL) ∗ (xLoc d ↦{tq (wL L)} fX) ∗ semVal (gCell d L) 0) : sProp 𝕄) := by
  have hall : bigSep Finset.univ (del d L fI fL fX fg fx hin)
      ⊢ iprop((gB.view.loc (V d (cV L) (jV L)) ↦{fullShare} tG d L fI fL : sProp 𝕄) ∗ (xB.view.loc (V d (cV L) (jV L)) ↦{fullShare} tG d L fI fX)
          ∗ (iB.view.loc (V d (cV L) (jV L)) ↦{fullShare} iG d L fI) ∗ (lLoc d ↦{tq (wL L)} fL) ∗ (xLoc d ↦{tq (wL L)} fX)) := by
    rw [del_all]
    have three : ∀ A B C : Fin 4 → sProp 𝕄, bigSep Finset.univ (fun r => iprop(A r ∗ B r ∗ C r))
        ⊢ iprop(bigSep Finset.univ A ∗ bigSep Finset.univ B ∗ bigSep Finset.univ C) := fun A B C => Entails.of_eq (by rw [bigSep_sep', bigSep_sep'])
    have hL : bigSep Finset.univ (fun r : Fin 4 => bigSep Finset.univ (delL d L fI fL fg hin r))
        ⊢ iprop((bigSep Finset.univ fun r : Fin 4 => ((rowM gB r).view.loc (V d (cV L) (jV L)) ↦[(rowM gB r).view.set]{fullShare} tG d L fI fL : sProp 𝕄))
          ∗ (bigSep Finset.univ fun r : Fin 4 => ((rowM iB r).view.loc (V d (cV L) (jV L)) ↦[(rowM iB r).view.set]{fullShare.left} iG d L fI))
          ∗ bigSep Finset.univ fun r : Fin 4 => (lLoc d ↦{q4 L r} fL)) :=
      (bigSep_mono fun r _ => joinL d L fI fL fg hin r).trans (three _ _ _)
    have hX : bigSep Finset.univ (fun r : Fin 4 => bigSep Finset.univ (delX d L fI fX fx hin r))
        ⊢ iprop((bigSep Finset.univ fun r : Fin 4 => ((rowM xB r).view.loc (V d (cV L) (jV L)) ↦[(rowM xB r).view.set]{fullShare} tG d L fI fX : sProp 𝕄))
          ∗ (bigSep Finset.univ fun r : Fin 4 => ((rowM iB r).view.loc (V d (cV L) (jV L)) ↦[(rowM iB r).view.set]{fullShare.right} iG d L fI))
          ∗ bigSep Finset.univ fun r : Fin 4 => (xLoc d ↦{q4 L r} fX)) :=
      (bigSep_mono fun r _ => joinX d L fI fX fx hin r).trans (three _ _ _)
    iintro ⟨HL, HX⟩
    ihave HL' := hL $$ HL
    ihave HX' := hX $$ HX
    icases HL' with ⟨Hg, Hil, Hl⟩
    icases HX' with ⟨Hx, Hir, Hxs⟩
    isplitl [Hg]; · iapply (Entails.of_eq (whole_rows d L gB (View.set_whole _) fullShare (tG d L fI fL)).symm); iexact Hg
    isplitl [Hx]; · iapply (Entails.of_eq (whole_rows d L xB (View.set_whole _) fullShare (tG d L fI fX)).symm); iexact Hx
    isplitl [Hil Hir]
    · iapply (pointsTo_share (ℓ := iB.view.loc (V d (cV L) (jV L))) (I := Finset.univ) (f := iG d L fI) (PosShare.mem_left_op_right fullShare)).2
      isplitl [Hil]
      · iapply (Entails.of_eq (whole_rows d L iB (View.set_whole _) fullShare.left (iG d L fI)).symm); iexact Hil
      · iapply (Entails.of_eq (whole_rows d L iB (View.set_whole _) fullShare.right (iG d L fI)).symm); iexact Hir
    isplitl [Hl]
    · iapply (Entails.of_eq (pointsTo_piecesOf Finset.univ fL (by decide : 0 < 4) (tq (wL L))).symm); iexact Hl
    · iapply (Entails.of_eq (pointsTo_piecesOf Finset.univ fX (by decide : 0 < 4) (tq (wL L))).symm); iexact Hxs
  unfold Left
  iintro ⟨-, HB⟩
  imod (Transfers.batch_collect' countersEmb (c := V d (cV L) (jV L)) (by decide : 0 < N1)) $$ HB with ⟨HD, Hv⟩
  imodintro
  ihave HD' := hall $$ HD
  icases HD' with ⟨Hg, Hx, Hi, Hl, Hxs⟩
  isplitl [Hg]; · iexact Hg
  isplitl [Hx]; · iexact Hx
  isplitl [Hi]; · iexact Hi
  isplitl [Hl]; · iexact Hl
  isplitl [Hxs]; · iexact Hxs
  iexact Hv

/-- The two buffers, the fetched numbers and the tables' shares are what the eight gathers take. -/
theorem batch_start :
    iprop((gB.view.loc (V d (cV L) (jV L)) ↦{fullShare} fg : sProp 𝕄) ∗ (xB.view.loc (V d (cV L) (jV L)) ↦{fullShare} fx)
        ∗ (iB.view.loc (V d (cV L) (jV L)) ↦{fullShare} iG d L fI) ∗ (lLoc d ↦{tq (wL L)} fL) ∗ (xLoc d ↦{tq (wL L)} fX))
      ⊢ iprop((bigSep Finset.univ fun r : Fin 4 => preL d L fI fL fg r) ∗ bigSep Finset.univ fun r : Fin 4 => preX d L fI fX fx r) := by
  have three : ∀ A B C : Fin 4 → sProp 𝕄, iprop(bigSep Finset.univ A ∗ bigSep Finset.univ B ∗ bigSep Finset.univ C)
      ⊢ bigSep Finset.univ (fun r => iprop(A r ∗ B r ∗ C r)) := fun A B C => Entails.of_eq (by rw [bigSep_sep', bigSep_sep'])
  unfold preL preX
  rw [set_allL, set_allX]
  iintro ⟨Hg, Hx, Hi, Hl, Hxs⟩
  ihave Hi' := ((pointsTo_share (ℓ := iB.view.loc (V d (cV L) (jV L))) (I := Finset.univ) (f := iG d L fI) (PosShare.mem_left_op_right fullShare)).1) $$ Hi
  icases Hi' with ⟨Hil, Hir⟩
  ihave Hg' := (Entails.of_eq (whole_rows d L gB (View.set_whole _) fullShare fg)) $$ Hg
  ihave Hx' := (Entails.of_eq (whole_rows d L xB (View.set_whole _) fullShare fx)) $$ Hx
  ihave Hil' := (Entails.of_eq (whole_rows d L iB (View.set_whole _) fullShare.left (iG d L fI))) $$ Hil
  ihave Hir' := (Entails.of_eq (whole_rows d L iB (View.set_whole _) fullShare.right (iG d L fI))) $$ Hir
  ihave Hl' := (Entails.of_eq (pointsTo_piecesOf Finset.univ fL (by decide : 0 < 4) (tq (wL L)))) $$ Hl
  ihave Hxs' := (Entails.of_eq (pointsTo_piecesOf Finset.univ fX (by decide : 0 < 4) (tq (wL L)))) $$ Hxs
  isplitl [Hl' Hg' Hil']
  · iapply (three _ _ _)
    isplitl [Hl']; · iexact Hl'
    isplitl [Hg']; · iexact Hg'
    iexact Hil'
  · iapply (three _ _ _)
    isplitl [Hxs']; · iexact Hxs'
    isplitl [Hx']; · iexact Hx'
    iexact Hir'

/-- A family over four, written out. -/
theorem four (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ

end Batch

/-! ## The payload of a stretch -/

theorem cast_back (y : S1x16.Idx) : Shape.reshapeEquiv shapeCasts_S1x16_S16 (Shape.reshapeEquiv shapeCasts_S16_S1x16 y) = y :=
  congrFun (shapeCast_shapeCast (fun z : S1x16.Idx => z) shapeCasts_S1x16_S16 shapeCasts_S16_S1x16) y

/-- A stretch's arithmetic runs on a row of sixteen and is reshaped to the stored block: the entries' arithmetic all the same. -/
theorem pay_eq (c x g : Vec F S1x16 .f32) (y : S1x16.Idx) :
    entryOf (c (Shape.reshapeEquiv shapeCasts_S1x16_S16 (Shape.reshapeEquiv shapeCasts_S16_S1x16 y)))
      (x (Shape.reshapeEquiv shapeCasts_S1x16_S16 (Shape.reshapeEquiv shapeCasts_S16_S1x16 y)))
      (g (Shape.reshapeEquiv shapeCasts_S1x16_S16 (Shape.reshapeEquiv shapeCasts_S16_S1x16 y)))
      = entryOf (c y) (x y) (g y) := by
  rw [cast_back]

/-- The stretch that starts at offset `o`. -/
abbrev stretch (o : Fin 2 → ℕ) : ℕ := o 0 * 8 + o 1 / 16

set_option maxHeartbeats 1000000 in
/-- One stretch: its three loads (the store's own load among them, unused), and its store. -/
theorem wp_chunk {α : Type} {Q : α → sProp 𝕄} (C X G : S4x128.Idx → F .f32) {o : Fin 2 → ℕ}
    {hb : ∀ a, o a + S1x16.size a ≤ S4x128.size a} {h₁ h₂ h₃ h₄ h₅ h₆}
    {pay : Vec F S1x16 .f32 → Vec F S1x16 .f32 → Vec F S1x16 .f32 → FVec F S1x16 .f32}
    {k : PUnit → Prog (TpuEff nD τ sig (Elt F) Λ₀ (V d (cV L) (jV L)).2) α} :
    iprop(⌜o 1 % 16 = 0 ∧ ∀ c x g y, pay c x g y = entryOf (c y) (x y) (g y)⌝ ∗ ((cB.view.loc (V d (cV L) (jV L)) ↦{fullShare} C : sProp 𝕄)) ∗ (xB.view.loc (V d (cV L) (jV L)) ↦{fullShare} X)
        ∗ gB.view.loc (V d (cV L) (jV L)) ↦{fullShare} mix C X G (stretch o))
      ⊢ iprop((iprop((cB.view.loc (V d (cV L) (jV L)) ↦{fullShare} C) ∗ (xB.view.loc (V d (cV L) (jV L)) ↦{fullShare} X)
          ∗ gB.view.loc (V d (cV L) (jV L)) ↦{fullShare} mix C X G (stretch o + 1)) -∗ wp frame (wpE (defs₀ (F := F)) 𝒱₀ (V d (cV L) (jV L)) none) Set.univ (k ⟨⟩) Q)
        -∗ wp frame (wpE (defs₀ (F := F)) 𝒱₀ (V d (cV L) (jV L)) none) Set.univ
          (Prog.lift (.load cB (Rect.unit (s := S4x128) o S1x16.size hb).toLoadRect h₁) >>= fun c =>
            Prog.lift (.load xB (Rect.unit (s := S4x128) o S1x16.size hb).toLoadRect h₂) >>= fun x =>
            Prog.lift (.load gB (Rect.unit (s := S4x128) o S1x16.size hb).toLoadRect h₃) >>= fun g =>
            Prog.lift (.load gB (Rect.unit (s := S4x128) o S1x16.size hb).toLoadRect h₄) >>= fun _ =>
            Prog.lift (.store gB (Rect.unit (s := S4x128) o S1x16.size hb) (pay c x g) Finset.univ h₅ h₆) >>= k) Q) := by
  iintro ⟨%hp, Hc, Hx, Hg⟩ Hk
  have ho := hp.1
  obtain ⟨n, rfl, hn⟩ : ∃ n, o = off16 n ∧ n = stretch o := by
    refine ⟨stretch o, ?_, rfl⟩
    have h1 : o 1 + 16 ≤ 128 := hb 1
    funext a
    match a with
    | 0 => change o 0 = (o 0 * 8 + o 1 / 16) / 8; omega
    | 1 => change o 1 = 16 * ((o 0 * 8 + o 1 / 16) % 8); omega
  rw [← hn]
  sl_exec
  rw [mix_step C X G n hb _ fun y => hp.2 _ _ _ y]
  iapply Hk
  isplitl [Hc]; · iexact Hc
  isplitl [Hx]; · iexact Hx
  iexact Hg

end Task

end Cert.Proof.Run

end
-- ==== Proof.Body.lean ====
/-
  A task's run, from its share of the operands to its rows of the result.
-/
module

public import proofs.«01_k».proof.Proof.Steps

@[expose] public section

noncomputable section

namespace Cert.Proof.Run

open Cert.KernelIdeal Cert.KernelIdeal.Gen

open Idealize.ShloMosaic
open Idealize.ShloMosaic.SparseCore (S V T rows gatherPayload)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.GatherBatch

variable {F : FTy → Type} [FloatOps F] [Named F]

local notation "𝕄" => MT nD τ sig (HIx 1) (Elt F) ℕ UU ℕ

section Task

variable (d : Dev nD) (L : grid1.Coords)

/-- The task's rows of an operand or of the result, as its copies address them. -/
theorem set_iK : (iM.slice (rowsK L) (fun _ => rfl)).view.set = (rowR (wL L)).set :=
  (View.set_slice_whole main_v0_scv (rowsK L)).trans (congrArg (fun R : Rect S128x128 => R.set) (rowsK_eq L))
theorem set_cK : (cM.slice (rowsK L) (fun _ => rfl)).view.set = (rowR (wL L)).set :=
  (View.set_slice_whole main_v1_scv (rowsK L)).trans (congrArg (fun R : Rect S128x128 => R.set) (rowsK_eq L))
theorem set_oK : (oM.slice (rowsK L) (fun _ => rfl)).view.set = (rowR (wL L)).set :=
  (View.set_slice_whole main_v3_scv (rowsK L)).trans (congrArg (fun R : Rect S128x128 => R.set) (rowsK_eq L))

theorem pts_iK (f : Buf (Elt F) (iLoc d)) : (iLoc d ↦[(rowR (wL L)).set]{fullShare} f : sProp 𝕄)
    = (iM.slice (rowsK L) (fun _ => rfl)).view.loc (V d (cV L) (jV L)) ↦[(iM.slice (rowsK L) (fun _ => rfl)).view.set]{fullShare} f := by
  rw [set_iK]
theorem pts_cK (f : Buf (Elt F) (cLoc d)) : (cLoc d ↦[(rowR (wL L)).set]{fullShare} f : sProp 𝕄)
    = (cM.slice (rowsK L) (fun _ => rfl)).view.loc (V d (cV L) (jV L)) ↦[(cM.slice (rowsK L) (fun _ => rfl)).view.set]{fullShare} f := by
  rw [set_cK]
theorem pts_oK (f : Buf (Elt F) (oLoc d)) : (oLoc d ↦[(rowR (wL L)).set]{fullShare} f : sProp 𝕄)
    = (oM.slice (rowsK L) (fun _ => rfl)).view.loc (V d (cV L) (jV L)) ↦[(oM.slice (rowsK L) (fun _ => rfl)).view.set]{fullShare} f := by
  rw [set_oK]

set_option maxHeartbeats 4000000 in
theorem tile_body (hF : (K (F := F)).Facts) (fI : Buf (Elt F) (iLoc d)) (fC : Buf (Elt F) (cLoc d)) (fL : Buf (Elt F) (lLoc d)) (fX : Buf (Elt F) (xLoc d))
    (f₀ : Buf (Elt F) (oLoc d)) (hin : ∀ y, (fI y : BitVec 32).toNat < 1000000)
    (O : CellTallies nD τ sig (HIx 1)) (W : Waits sig (HIx 1)) (hO : ∀ g, O g none = 0) :
    iprop(levAts (K (F := F)).L (K (F := F)).lev ∗ emp
        ∗ taskPts d (wL L) fI fC fL fX f₀
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_body L iM (Memref.isWhole_whole _) cM (Memref.isWhole_whole _) lM (Memref.isWhole_whole _) xM (Memref.isWhole_whole _)
            oM (Memref.isWhole_whole _) iB (Memref.isWhole_whole _) cB (Memref.isWhole_whole _) gB (Memref.isWhole_whole _) xB (Memref.isWhole_whole _)
            cc1_scratch4 cc1_scoped0 cc1_scoped1 cc1_scoped2)
          fun _ => iprop(taskPts d (wL L) fI fC fL fX (Part fI fC fL fX)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1__sc_body_eq_skeleton]; unfold cc1__sc_body_skel
  sl_open_parts
  simp only [LawfulMonad.bind_assoc, LawfulMonad.pure_bind]
  unfold taskPts
  rw [(K (F := F)).scopedBufs_V hF d (cV L) (jV L), SparseCore.Cfg.scopedSems0_V (Val := Elt F) d (cV L) (jV L), ownSems0_V, ownBufs_V]
  iintro ⟨#Hlv, -, ⟨Hi, Hc, Hl, Hx, Ho⟩, ⟨⟨%si, Hsi⟩, ⟨%sc, Hsc⟩, ⟨%sg, Hsg⟩, ⟨%sx, Hsx⟩, Hbufs⟩, ⟨HsemG, HsemA, HsemB, HsemE, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iK (F := F) d L fI)) $$ Hi
  ihave Hc' := (Entails.of_eq (pts_cK (F := F) d L fC)) $$ Hc
  ihave Ho' := (Entails.of_eq (pts_oK (F := F) d L f₀)) $$ Ho
  ihave Hsi' := (Entails.of_eq (show ((V d (cV L) (jV L)).loc cc1_scratch0 ↦{fullShare} si : sProp 𝕄)
    = iB.view.loc (V d (cV L) (jV L)) ↦{fullShare} si from rfl)) $$ Hsi
  ihave Hsc' := (Entails.of_eq (show ((V d (cV L) (jV L)).loc cc1_scratch1 ↦{fullShare} sc : sProp 𝕄)
    = cB.view.loc (V d (cV L) (jV L)) ↦{fullShare} sc from rfl)) $$ Hsc
  sl_exec
  have hI : View.write (Elt F) iB.view si (tile_body.sl.dma0 d L fI) Finset.univ = iG d L fI := View.write_whole_univ _ _ _
  have hC : View.write (Elt F) cB.view sc (tile_body.sl.dma0_1 d L fC) Finset.univ = cG d L fC := View.write_whole_univ _ _ _
  rw [hI, hC]
  have hin' : ∀ (r : Fin 4) (x : S128.Idx), (nums (F := F) d L fI r x).toNat < S1000000.size gathers_S1000000_S128.axis := fun r x => hin _
  ihave Hpre := (batch_start d L fI fL fX sg sx) $$ [Hsg Hsx Hsi' Hl Hx]
  · isplitl [Hsg]; · iexact Hsg
    isplitl [Hsx]; · iexact Hsx
    isplitl [Hsi']; · iexact Hsi'
    isplitl [Hl]; · iexact Hl
    iexact Hx
  ihave Hpre' := (Entails.of_eq (show iprop((bigSep Finset.univ fun r : Fin 4 => preL d L fI fL sg r) ∗ bigSep Finset.univ fun r : Fin 4 => preX d L fI fX sx r) = _ by rw [four, four])) $$ Hpre
  icases Hpre' with ⟨⟨Hl0, Hl1, Hl2, Hl3⟩, Hx0, Hx1, Hx2, Hx3⟩
  imod (Transfers.batch_alloc' countersEmb (V d (cV L) (jV L)) (default : HIx 1) N1 (del d L fI fL fX sg sx hin') (E := Set.univ)) $$ HsemG with HB
  iapply (wp_gatherL d L fI fL fX sg sx hin' 0 0 rfl) $$ [Hl0 HB]
  · isplitl [Hl0]; · iexact Hl0
    iexact HB
  iintro HB
  iapply (wp_gatherX d L fI fL fX sg sx hin' 0 128 rfl) $$ [Hx0 HB]
  · isplitl [Hx0]; · iexact Hx0
    iexact HB
  iintro HB
  iapply (wp_gatherL d L fI fL fX sg sx hin' 1 256 rfl) $$ [Hl1 HB]
  · isplitl [Hl1]; · iexact Hl1
    iexact HB
  iintro HB
  iapply (wp_gatherX d L fI fL fX sg sx hin' 1 384 rfl) $$ [Hx1 HB]
  · isplitl [Hx1]; · iexact Hx1
    iexact HB
  iintro HB
  iapply (wp_gatherL d L fI fL fX sg sx hin' 2 512 rfl) $$ [Hl2 HB]
  · isplitl [Hl2]; · iexact Hl2
    iexact HB
  iintro HB
  iapply (wp_gatherX d L fI fL fX sg sx hin' 2 640 rfl) $$ [Hx2 HB]
  · isplitl [Hx2]; · iexact Hx2
    iexact HB
  iintro HB
  iapply (wp_gatherL d L fI fL fX sg sx hin' 3 768 rfl) $$ [Hl3 HB]
  · isplitl [Hl3]; · iexact Hl3
    iexact HB
  iintro HB
  iapply (wp_gatherX d L fI fL fX sg sx hin' 3 896 rfl) $$ [Hx3 HB]
  · isplitl [Hx3]; · iexact Hx3
    iexact HB
  iintro HB
  ihave HB := (show GB d L fI fL fX sg sx hin' 1024 0 ⊢ Left d L fI fL fX sg sx hin' 8 from by
    unfold Left
    iintro HB
    isplitr; · ipureintro; omega
    iexact HB) $$ HB
  iterate 8
    iapply (wp_gatherWait d L fI fL fX sg sx hin') $$ [HB HO]
    · isplitr; · ipureintro; rfl
      isplitl [HB]; · iexact HB
      isplitl [HO]; · iexact HO
      iexact Hmw
    iintro ⟨HB, HO⟩
  imod (batch_done d L fI fL fX sg sx hin') $$ HB with ⟨Hg, Hxb, Hsi', Hl, Hx, HsemG⟩
  ihave Hg := (Entails.of_eq (show (gB.view.loc (V d (cV L) (jV L)) ↦{fullShare} tG d L fI fL : sProp 𝕄)
    = gB.view.loc (V d (cV L) (jV L)) ↦{fullShare} mix (cG d L fC) (tG d L fI fX) (tG d L fI fL) 0 by rw [mix_zero])) $$ Hg
  iterate 32
    iapply (wp_chunk d L (cG d L fC) (tG d L fI fX) (tG d L fI fL)) $$ [Hsc' Hxb Hg]
    · isplitr; · ipureintro; exact ⟨rfl, fun c x g y => pay_eq c x g y⟩
      isplitl [Hsc']; · iexact Hsc'
      isplitl [Hxb]; · iexact Hxb
      iexact Hg
    iintro ⟨Hsc', Hxb, Hg⟩
  sl_exec
  have hO' : ∀ i ∈ (oM.slice (rowsK L) (fun _ => rfl)).view.set,
      ((oM.slice (rowsK L) (fun _ => rfl)).view.writes (Elt F) f₀ [⟨Rect.whole (rowsK L).shape, tile_body.sl.dma0_2 d L fI fC fL fX⟩]) i
        = Part fI fC fL fX i := by
    intro i hi
    obtain ⟨y, -, rfl⟩ := Finset.mem_map.mp hi
    have h := View.read_writes_cons_emb (Val := Elt F) (oM.slice (rowsK L) (fun _ => rfl)).view f₀ (Rect.whole (rowsK L).shape)
      (tile_body.sl.dma0_2 d L fI fC fL fX) [] y
    rw [Rect.emb_whole_apply] at h
    exact h.trans (mix_all _ _ _ y)
  ihave Ho' := (Entails.of_eq ((pointsTo_congr hO').trans (pts_oK (F := F) d L (Part fI fC fL fX)).symm)) $$ Ho'
  sl_step
  isplitl [Hi' Hc' Hl Hx Ho']
  · isplitl [Hi']; · iapply (Entails.of_eq (pts_iK (F := F) d L _).symm); iexact Hi'
    isplitl [Hc']; · iapply (Entails.of_eq (pts_cK (F := F) d L _).symm); iexact Hc'
    isplitl [Hl]; · iexact Hl
    isplitl [Hx]; · iexact Hx
    iexact Ho'
  isplitl [Hsi' Hsc' Hg Hxb Hbufs]
  · isplitl [Hsi']; · iexists _; iexact Hsi'
    isplitl [Hsc']; · iexists _; iexact Hsc'
    isplitl [Hg]; · iexists _; iexact Hg
    isplitl [Hxb]; · iexists _; iexact Hxb
    iexact Hbufs
  isplitl [HsemG HsemA HsemB HsemE Hsems]
  · isplitl [HsemG]; · iexact HsemG
    isplitl [HsemA]; · iexact HsemA
    isplitl [HsemB]; · iexact HsemB
    isplitl [HsemE]; · iexact HsemE
    iexact Hsems
  iexists _; isplitr
  swap; · iexact HO
  ipureintro; intro p hp
  iterate 11
    rcases Finset.mem_insert.mp hp with hp | hp; · exact .inr (hp ▸ rfl)
  exact .inl hp

/-! ## The launch's obligation for the tiles -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__sc_body (coordsV c s)
          iM (Memref.isWhole_whole _) cM (Memref.isWhole_whole _) lM (Memref.isWhole_whole _) xM (Memref.isWhole_whole _)
          oM (Memref.isWhole_whole _) iB (Memref.isWhole_whole _) cB (Memref.isWhole_whole _) gB (Memref.isWhole_whole _) xB (Memref.isWhole_whole _)
          cc1_scratch4 cc1_scoped0 cc1_scoped1 cc1_scoped2) ⟨⟩ c s := rfl

/-- The tiles' waits are all at the index of the buffers' own transfers. -/
theorem waits_own {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end Task

end Cert.Proof.Run

end
-- ==== Proof.LseBody.lean ====
/-
  The first TensorCore call, one grid point at a time: the body loads a block of the logits, adds the sum of their
  exponentials to the running sum held in scalar memory — from zero at the first point, and with the entries past the
  table's end left out —, and at the last point stores the logarithm of that sum.
-/
module

public import proofs.«01_k».proof.Proof.Setup

@[expose] public section

noncomputable section

namespace Cert.Proof.Run

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (SparseCore.Cfg.HIx 1) (Elt F) ℕ UU ℕ

/-! ## The values -/

/-- Whether the point is the first, as the body tests it. -/
def firstPt (i : grid0.Coords) : BitVec 1 :=
  Scalar.cmpi .ne (Scalar.extui (Scalar.cmpi .eq (BitVec.ofNat 32 (i 0).val) 0#32) : BitVec 32) 0#32

/-- The running sum a point starts from, when the scratch word reads `a`. -/
def startAt (i : grid0.Coords) (a : F .f32) : F .f32 := if firstPt i = 1#1 then Scalar.ofBits .f32 0x00000000#32 else a

/-- The scratch word's one index. -/
abbrev w0 : S1.Idx := Shape.Idx.first (s := S1) (numel1_S1.symm ▸ Nat.one_pos)

/-! ## The run -/

set_option maxHeartbeats 1000000 in
/-- One run of the body: the block's buffer as it was, the result's at the logarithm when the point is the last, the
    scratch word at the new running sum. -/
theorem sum_body (d : Dev nD) (i : grid0.Coords) (s0 : Fin 2) (h0 : (stage0_0 s0).IsWhole) (h1 : (stage0_1 0).IsWhole)
    (h2 : (Memref.whole cc0_scratch0 : Memref sig .tc .smem S1 .f32).IsWhole)
    (X : S131072.Idx → Elt F .f32) (Y : S1x1.Idx → Elt F .f32) (a : S1.Idx → Elt F .f32) (Q : PUnit → sProp 𝕄) :
    iprop(owns (d : Thread nD τ) (stage0_0 s0) fullShare X ∗ owns (d : Thread nD τ) (stage0_1 0) fullShare Y
        ∗ ((d : Thread nD τ).loc cc0_scratch0 ↦{fullShare} a)
        ∗ (iprop(owns (d : Thread nD τ) (stage0_0 s0) fullShare X
            ∗ owns (d : Thread nD τ) (stage0_1 0) fullShare (if k0_cond2 i = 1#1 then k0_pay2 i X (startAt i (a w0)) else Y)
            ∗ ((d : Thread nD τ).loc cc0_scratch0 ↦{fullShare} (fun _ => k0_pay1 i X (startAt i (a w0))))) -∗ Q ⟨⟩))
      ⊢ wp frame (wpE (defs₀ (F := F)) 𝒱₀ (d : Thread nD τ) none) Set.univ
          (cc0__sumexp_body i (stage0_0 s0) h0 (stage0_1 0) h1 (Memref.whole cc0_scratch0) h2) Q := by
  have hz2 : (![0, 0] : Fin 2 → Nat) = fun _ => 0 := funext fun a => by fin_cases a <;> rfl
  have hz1 : (![0] : Fin 1 → Nat) = fun _ => 0 := funext fun a => by fin_cases a; rfl
  have hr00 : (Memref.whole cc0_stg0_0 : Memref sig .tc _ _ _).view.readAt (Elt F) (Rect.unit (s := S131072) ![0] S131072.size
        inb_S131072_S131072_0).toLoadRect = id := funext (Memref.readAt_unit_zero (Elt F) cc0_stg0_0 hz1 _)
  have hr01 : (Memref.whole cc0_stg0_1 : Memref sig .tc _ _ _).view.readAt (Elt F) (Rect.unit (s := S131072) ![0] S131072.size
        inb_S131072_S131072_0).toLoadRect = id := funext (Memref.readAt_unit_zero (Elt F) cc0_stg0_1 hz1 _)
  have hr1 : (Memref.whole cc0_scratch0 : Memref sig .tc _ _ _).view.readAt (Elt F) (Rect.unit (s := S1) ![0] S1.size
        inb_S1_S1_0).toLoadRect = id := funext (Memref.readAt_unit_zero (Elt F) cc0_scratch0 hz1 _)
  have hw1 : ∀ f w, (((Memref.whole cc0_scratch0).access (Rect.unit (s := S1) ![0] S1.size inb_S1_S1_0)) :
        View sig .tc _ _ _).write (Elt F) f w Finset.univ = w := Memref.write_access_unit_zero_univ (Elt F) cc0_scratch0 hz1 _
  have hw2 : ∀ f w, (((Memref.whole cc0_stg1_0).access (Rect.unit (s := S1x1) ![0, 0] S1x1.size inb_S1x1_S1x1_0_0)) :
        View sig .tc _ _ _).write (Elt F) f w Finset.univ = w := Memref.write_access_unit_zero_univ (Elt F) cc0_stg1_0 hz2 _
  rw [cc0__sumexp_body_eq_skeleton]
  unfold cc0__sumexp_body_skel startAt firstPt
  by_cases hA : Scalar.cmpi .ne (Scalar.extui (Scalar.cmpi .eq (BitVec.ofNat 32 (i 0).val) 0#32) : BitVec 32) 0#32 = 1#1 <;>
    by_cases hB : k0_cond2 i = 1#1 <;>
    fin_cases s0
  all_goals
    simp only [hA, hB, ↓reduceDIte, ↓reduceIte, owns_whole_eq, Prog.lift, Prog.bind_op, Prog.bind_ret, Prog.pure_eq_ret, smemLoad, smemLoadElt]
    iintro ⟨⟨%f0, %hf0, H0⟩, ⟨%f1, %hf1, H1⟩, H2, Hk⟩
    subst hf0 hf1
    sl_steps
    iapply Hk
    try simp only [View.writes_cons, View.writes_nil]
    repeat first | rw [hr00] | rw [hr01] | rw [hr1] | rw [hw1] | rw [hw2]
    isplitl [H0]
    · iexists f0; isplitr; swap; · iexact H0
      ipureintro; rfl
    isplitl [H1]
    · iexists _; isplitr; swap; · iexact H1
      ipureintro; rfl
    iexact H2

end Cert.Proof.Run

end
-- ==== Proof.LseRegion.lean ====
/-
  The first TensorCore call as a region of the program: over the eight grid points the scratch word runs through the
  partial sums of the exponentials (`runSum`), and the call ends with the logarithm of the whole sum in its result array.
  The last block hangs over the table's end; what its staging buffer holds past the end is masked out, so it does not
  matter (`pay1_congr`).
-/
module

public import proofs.«01_k».proof.Proof.LseBody
public import Idealize.ShloMosaic.Lib.Pipeline.RegionsLoop
public import Idealize.ShloMosaic.Lib.Pipeline.Value

@[expose] public section

noncomputable section

namespace Cert.Proof.Run

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F] [Named F]

local notation "𝕄" => MT nD τ sig (SparseCore.Cfg.HIx 1) (Elt F) ℕ UU ℕ

/-! ## The mask -/

/-- The exponentials of a block, with zero at the entries whose place in the table is past its end. -/
def masked (i : grid0.Coords) (v : Vec F S131072 .f32) : FVec F S1024x128 .f32 :=
  select (cmpi .slt
      (addi (addi (broadcast S1024x128 (Scalar.muli (BitVec.ofNat 32 (i 0).val) 131072#32))
        (muli (iota .tc S1024x128 32 [0] iota_S1024x128_d0_w32) (broadcast S1024x128 128#32)))
        (iota .tc S1024x128 32 [1] iota_S1024x128_d1_w32))
      (broadcast S1024x128 1000000#32))
    (exp (shapeCast S1024x128 v shapeCasts_S131072_S1024x128)) (broadcast S1024x128 (Scalar.ofBits .f32 0x00000000#32))

/-- A block's entry by its row and column. -/
def flat (j : S1024x128.Idx) : S131072.Idx := fun a => ⟨(j 0).val * 128 + (j 1).val, by
  have h : S131072.size a = 131072 := by match a with | 0 => rfl
  have h0 : (j 0).val < 1024 := (j 0).isLt
  have h1 : (j 1).val < 128 := (j 1).isLt
  omega⟩

theorem masked_apply (i : grid0.Coords) (v : Vec F S131072 .f32) (j : S1024x128.Idx) :
    masked i v j = if (i 0).val * 131072 + (j 0).val * 128 + (j 1).val < 1000000
      then FloatOps.exp (v (flat j)) else Scalar.ofBits .f32 0x00000000#32 := by
  have h0 : (j 0).val < 1024 := (j 0).isLt
  have h1 : (j 1).val < 128 := (j 1).isLt
  have hi : (i 0).val < 8 := (i 0).isLt
  have hc : cmpi .slt
      (addi (addi (broadcast S1024x128 (Scalar.muli (BitVec.ofNat 32 (i 0).val) 131072#32))
        (muli (iota .tc S1024x128 32 [0] iota_S1024x128_d0_w32) (broadcast S1024x128 128#32)))
        (iota .tc S1024x128 32 [1] iota_S1024x128_d1_w32))
      (broadcast S1024x128 1000000#32) j
      = BitVec.ofBool (decide ((i 0).val * 131072 + (j 0).val * 128 + (j 1).val < 1000000)) := by
    simp only [cmpi, addi, muli, broadcast, IntOp.cmpi, IntOp.addi, IntOp.muli, Scalar.muli]
    rw [show iota .tc S1024x128 32 [0] iota_S1024x128_d0_w32 j = BitVec.ofNat 32 (j 0).val from iota_single_apply .tc S1024x128 32 0 _ j,
      show iota .tc S1024x128 32 [1] iota_S1024x128_d1_w32 j = BitVec.ofNat 32 (j 1).val from iota_single_apply .tc S1024x128 32 1 _ j]
    congr 1
    rw [BitVec.slt_eq_decide]
    congr 1
    have e : (BitVec.ofNat 32 (i 0).val * 131072#32 + BitVec.ofNat 32 (j 0).val * 128#32 + BitVec.ofNat 32 (j 1).val : BitVec 32)
        = BitVec.ofNat 32 ((i 0).val * 131072 + (j 0).val * 128 + (j 1).val) := by
      simp only [BitVec.ofNat_add, BitVec.ofNat_mul]
    have e' : (BitVec.ofNat 32 ((i 0).val * 131072 + (j 0).val * 128 + (j 1).val)).toInt
        = (((i 0).val * 131072 + (j 0).val * 128 + (j 1).val : ℕ) : ℤ) := by
      rw [BitVec.toInt_eq_toNat_of_lt (by rw [BitVec.toNat_ofNat]; omega), BitVec.toNat_ofNat]; omega
    rw [e, e', show (1000000#32 : BitVec 32).toInt = 1000000 from by decide]
    exact propext (by omega)
  have hs : shapeCast S1024x128 v shapeCasts_S131072_S1024x128 j = v (flat j) :=
    shapeCast_apply v _ j (flat j) (by
      rw [Shape.rowMajor_val_two, Shape.rowMajor_val_one]; rfl)
  unfold masked
  simp only [select, hc, exp, hs, broadcast]
  unfold Scalar.select
  by_cases h : (i 0).val * 131072 + (j 0).val * 128 + (j 1).val < 1000000
  · simp only [h, decide_true, ↓reduceIte]; rfl
  · simp only [h, decide_false, ↓reduceIte]; rfl

/-- The sum of a masked block, onto a running sum. -/
theorem pay1_eq (i : grid0.Coords) (v : Vec F S131072 .f32) (s : F .f32) :
    k0_pay1 i v s = Scalar.addf s (extractAt ![0, 0, 0] (shapeCast S1x1x1 (multiReduction .add [1, 2] S1
      (shapeCast S1x1024x128 (masked i v) shapeCasts_S1024x128_S1x1024x128) 0x00000000#32 reduces_S1x1024x128_S1 (.inl rfl) rfl)
      shapeCasts_S1_S1x1x1) inpos_S1x1x1_p0_0_0) := rfl

/-- It reads only the entries inside the table. -/
theorem pay1_congr (i : grid0.Coords) (v v' : Vec F S131072 .f32) (s : F .f32)
    (h : ∀ j : S1024x128.Idx, (i 0).val * 131072 + (j 0).val * 128 + (j 1).val < 1000000 → v (flat j) = v' (flat j)) :
    k0_pay1 i v s = k0_pay1 i v' s := by
  have e : masked i v = masked i v' := funext fun j => by
    rw [masked_apply, masked_apply]
    split
    · rename_i hj; rw [h j hj]
    · rfl
  rw [pay1_eq, pay1_eq, e]

/-! ## The partial sums -/

/-- The block of the table a point stages: its entries inside the table, zero past the end. -/
def blkAt (X : S1000000.Idx → F .f32) (t : Fin grid0.N) : Vec F S131072 .f32 :=
  win0_0.fill (grid0.coords t) (fun _ => Scalar.ofBits .f32 0x00000000#32) ((win0_0.blk t).view.read (Elt F) X)

/-- The scratch word before point `n`. -/
def runSum (X : S1000000.Idx → F .f32) : ℕ → F .f32
  | 0 => Scalar.ofBits .f32 0x00000000#32
  | n + 1 => if h : n < grid0.N then k0_pay1 (grid0.coords ⟨n, h⟩) (blkAt X ⟨n, h⟩) (runSum X n) else runSum X n

/-- What the call leaves. -/
def lseOf (X : S1000000.Idx → F .f32) : S1x1.Idx → F .f32 := fun _ => Scalar.log (runSum X 8)

theorem coords_val (t : Fin grid0.N) : (grid0.coords t 0).val = t.val := by
  rcases fin_N0 t with rfl | rfl | rfl | rfl | rfl | rfl | rfl | rfl <;> decide

/-- How many entries of its block a point fetches: all of them, at the last point those inside the table. -/
theorem xsize_eq (t : Fin grid0.N) : win0_0.xsize (grid0.coords t) 0 = if t.val = 7 then 82496 else 131072 := by
  rcases fin_N0 t with rfl | rfl | rfl | rfl | rfl | rfl | rfl | rfl <;> decide +kernel

/-- Whatever the staging buffer holds past the table's end, a point adds the same. -/
theorem pay1_fill (X : S1000000.Idx → F .f32) (t : Fin grid0.N) (g : S131072.Idx → Elt F .f32) (s : F .f32) :
    k0_pay1 (grid0.coords t) (win0_0.fill (grid0.coords t) g ((win0_0.blk t).view.read (Elt F) X)) s
      = k0_pay1 (grid0.coords t) (blkAt X t) s := by
  refine pay1_congr _ _ _ _ fun j hj => ?_
  have hm : win0_0.moved (grid0.coords t) (flat j) = true := by
    rw [Window.moved_iff]
    intro a
    have h0 : (j 0).val < 1024 := (j 0).isLt
    have h1 : (j 1).val < 128 := (j 1).isLt
    match a with
    | ⟨0, _⟩ =>
      show (j 0).val * 128 + (j 1).val < win0_0.xsize (grid0.coords t) 0
      rw [coords_val] at hj
      have hx := xsize_eq t
      split at hx <;> omega
  unfold blkAt Window.fill
  rw [dif_pos hm, dif_pos hm]

theorem runSum_succ (X : S1000000.Idx → F .f32) (t : Fin grid0.N) :
    runSum X (t.val + 1) = k0_pay1 (grid0.coords t) (blkAt X t) (runSum X t.val) := by
  rw [runSum, dif_pos t.isLt]

theorem first_iff (t : Fin grid0.N) : firstPt (grid0.coords t) = 1#1 ↔ t.val = 0 := by
  rcases fin_N0 t with rfl | rfl | rfl | rfl | rfl | rfl | rfl | rfl <;> decide
theorem last_iff (t : Fin grid0.N) : k0_cond2 (grid0.coords t) = 1#1 ↔ t.val = 7 := by
  rcases fin_N0 t with rfl | rfl | rfl | rfl | rfl | rfl | rfl | rfl <;> decide

theorem startAt_eq (X : S1000000.Idx → F .f32) (t : Fin grid0.N) (a : F .f32) (h : t.val = 0 ∨ a = runSum X t.val) :
    startAt (grid0.coords t) a = runSum X t.val := by
  unfold startAt
  by_cases h0 : t.val = 0
  · rw [if_pos ((first_iff t).mpr h0), h0]; rfl
  · rw [if_neg fun e => h0 ((first_iff t).mp e)]; exact h.resolve_left h0

/-! ## The proof data -/

section Data
variable (fL : (d : Dev nD) → S1000000.Idx → F .f32) (f2 : (d : Dev nD) → S1x1.Idx → F .f32)
  (n b : ℕ)

/-- What the TensorCore owes while the call runs: what it still owes the SparseCores. -/
abbrev owesB (d : Dev nD) : sProp 𝕄 :=
  iprop(∃ W, ⌜(K (F := F)).WBelow (d : Thread nD τ) W b⌝ ∗ owes (d : Thread nD τ) ((K (F := F)).Otc d n) W)

/-- Between points: the other scoped buffers at something, the scratch word at the partial sum. -/
def lseInv (d : Dev nD) (k : ℕ) : sProp 𝕄 :=
  iprop((∃ f : Buf (Elt F) ((d : Thread nD τ).loc cc2_stg0_0), ((d : Thread nD τ).loc cc2_stg0_0) ↦{fullShare} f)
    ∗ (∃ f : Buf (Elt F) ((d : Thread nD τ).loc cc2_stg1_0), ((d : Thread nD τ).loc cc2_stg1_0) ↦{fullShare} f)
    ∗ (∃ f : Buf (Elt F) ((d : Thread nD τ).loc cc2_stg2_0), ((d : Thread nD τ).loc cc2_stg2_0) ↦{fullShare} f)
    ∗ (∃ f : Buf (Elt F) ((d : Thread nD τ).loc cc0_scratch0), ⌜k = 0 ∨ f w0 = runSum (fL d) k⌝ ∗ ((d : Thread nD τ).loc cc0_scratch0) ↦{fullShare} f))

def dat0 (d : Dev nD) : Dat τ (Elt F) (SparseCore.Cfg.HIx 1) ℕ UU ℕ cfg0 d where
  A w := match w with
    | ⟨0, _⟩ => fL d
    | ⟨1, _⟩ => f2 d
  after w t := match w with
    | ⟨0, _⟩ => blkAt (fL d) t
    | ⟨1, _⟩ => lseOf (fL d)
  Φ t := lseInv fL d t.val
  q _ := fullShare
  owed _ := (K (F := F)).Otc d n
  recorded _ := {p | (K (F := F)).lev ((d : Thread nD τ), p.1) p.2 ≤ b}

theorem before0_0 (d : Dev nD) (t : Fin cfg0.N) (g) :
    (dat0 fL f2 n b d).before (0 : Fin 2) t g = win0_0.fill (grid0.coords t) g ((win0_0.blk t).view.read (Elt F) (fL d)) := by
  unfold Dat.before; rw [if_pos (fetch0_0 t)]; rfl

theorem sum_body' (d : Dev nD) (i : grid0.Coords) (s0 : Fin 2) (s1 : Fin 1) (h0 : (stage0_0 s0).IsWhole) (h1 : (stage0_1 s1).IsWhole)
    (h2 : (Memref.whole cc0_scratch0 : Memref sig .tc .smem S1 .f32).IsWhole)
    (X : S131072.Idx → Elt F .f32) (Y : S1x1.Idx → Elt F .f32) (a : S1.Idx → Elt F .f32) (Q : PUnit → sProp 𝕄) :
    iprop(owns (d : Thread nD τ) (stage0_0 s0) fullShare X ∗ owns (d : Thread nD τ) (stage0_1 s1) fullShare Y
        ∗ ((d : Thread nD τ).loc cc0_scratch0 ↦{fullShare} a)
        ∗ (iprop(owns (d : Thread nD τ) (stage0_0 s0) fullShare X
            ∗ owns (d : Thread nD τ) (stage0_1 s1) fullShare (if k0_cond2 i = 1#1 then k0_pay2 i X (startAt i (a w0)) else Y)
            ∗ ((d : Thread nD τ).loc cc0_scratch0 ↦{fullShare} (fun _ => k0_pay1 i X (startAt i (a w0))))) -∗ Q ⟨⟩))
      ⊢ wp frame (wpE (defs₀ (F := F)) 𝒱₀ (d : Thread nD τ) none) Set.univ
          (cc0__sumexp_body i (stage0_0 s0) h0 (stage0_1 s1) h1 (Memref.whole cc0_scratch0) h2) Q := by
  obtain rfl : s1 = 0 := Subsingleton.elim _ _
  exact sum_body d i s0 h0 h1 h2 X Y a Q

set_option maxHeartbeats 1000000 in
theorem body0 (d : Dev nD) : BodyObligationLoose (dat0 fL f2 n b d) (defs₀ (F := F)) 𝒱₀ none Set.univ := fun t => by
  rw [bigSep_W0, bigSep_W0]
  rw [show (dat0 fL f2 n b d).Φ t.castSucc = lseInv fL d t.val from rfl, show (dat0 fL f2 n b d).Φ t.succ = lseInv fL d (t.val + 1) from rfl,
    show (dat0 fL f2 n b d).owesAt none t.succ = (dat0 fL f2 n b d).owesAt none t.castSucc from rfl]
  unfold lseInv
  iintro ⟨⟨Ha, Hb, Hc, ⟨%f, %hf, Hs⟩⟩, Howes, ⟨%d0, H0⟩, ⟨%d1, H1⟩⟩
  rw [before0_0]
  rw [show defs₀ (F := F) Proc.tc cfg0.body (cfg0.bodyArgs t (cfg0.slots t)) = bodyAt0 t from rfl]
  have hcall := sum_body' (F := F) d (grid0.coords t) (cfg0.slots t 0) (cfg0.slots t 1) (hstage0_0 ((cfg0.slots t 0).cast nbuf0_0)) (hstage0_1 ((cfg0.slots t 1).cast nbuf0_1)) (Memref.isWhole_whole _)
    (win0_0.fill (grid0.coords t) d0 ((win0_0.blk t).view.read (Elt F) (fL d))) ((dat0 fL f2 n b d).before (1 : Fin 2) t d1) f
  iapply hcall
  isplitl [H0]; · iexact H0
  isplitl [H1]; · iexact H1
  isplitl [Hs]; · iexact Hs
  iintro ⟨H0, H1, Hs⟩
  rw [startAt_eq (fL d) t _ hf, pay1_fill, ← runSum_succ]
  isplitl [Ha Hb Hc Hs]
  · isplitl [Ha]; · iexact Ha
    isplitl [Hb]; · iexact Hb
    isplitl [Hc]; · iexact Hc
    iexists _; isplitr; swap; · iexact Hs
    ipureintro; exact Or.inr rfl
  isplitl [Howes]; · iexact Howes
  isplitl [H0]
  · iexists d0
    have hcut : win0_0.cut (grid0.coords t) (blkAt (fL d) t) = (win0_0.blk t).view.read (Elt F) (fL d) := win0_0.cut_fill _ _ _
    change _ ⊢ owns (d : Thread nD τ) (stage0_0 (cfg0.slots t 0)) fullShare (win0_0.fill (grid0.coords t) d0 (win0_0.cut (grid0.coords t) (blkAt (fL d) t)))
    rw [hcut]; try iexact H0
  · by_cases h7 : t.val = 7
    · have hi : cfg0.idle 1 (cfg0.grid.coords t) = false := by
        show (!(k0_cond2 (grid0.coords t) == 1#1)) = false
        rw [(last_iff t).mpr h7]; rfl
      rw [if_pos ((last_iff t).mpr h7), hi]
      have hv : k0_pay2 (grid0.coords t) (win0_0.fill (grid0.coords t) d0 ((win0_0.blk t).view.read (Elt F) (fL d))) (runSum (fL d) t.val)
          = lseOf (fL d) := funext fun _ => by
        show Scalar.log (k0_pay1 _ _ _) = Scalar.log (runSum (fL d) (7 + 1))
        rw [pay1_fill, ← runSum_succ, h7]
      rw [hv]
      dsimp only
      iexact H1
    · have hi : cfg0.idle 1 (cfg0.grid.coords t) = true := by
        show (!(k0_cond2 (grid0.coords t) == 1#1)) = true
        have : k0_cond2 (grid0.coords t) ≠ 1#1 := fun e => h7 ((last_iff t).mp e)
        simp [this]
      have hfl : (cfg0.win 1).flush t = false := by
        rw [← Bool.not_eq_true]; intro e
        have h8 : t.val < 8 := t.isLt
        have := (flush0_1 t).mp e; omega
      rw [if_neg (fun e => h7 ((last_iff t).mp e)), hi, hfl]
      dsimp only
      iexists d1; iexact H1

/-- The result array's contents when the call ends. -/
theorem arr0_final (d : Dev nD) : (dat0 fL f2 n b d).arrAt (1 : Fin 2) cfg0.N = lseOf (fL d) := by
  refine (dat0 fL f2 n b d).arrAt_eq_of_cover (1 : Fin 2) _ ?_ ?_
  · intro t _; rfl
  · intro i
    refine ⟨⟨7, by decide⟩, (flush0_1 _).mpr rfl, ?_⟩
    have hpos : ∀ a, 0 < ((cfg0.win 1).xblock (cfg0.grid.coords ⟨7, by decide⟩)).size a := by decide
    have h := ((cfg0.win 1).blk ⟨7, by decide⟩).view.emb_mem_set (fun a => ⟨0, hpos a⟩)
    have hs : Subsingleton S1x1.Idx := ⟨fun a b => funext fun k => match k with
      | ⟨0, _⟩ => Subsingleton.elim (α := Fin 1) _ _
      | ⟨1, _⟩ => Subsingleton.elim (α := Fin 1) _ _⟩
    exact (hs.elim _ i) ▸ h

/-! ## The region -/

/-- Nothing is said of a pipeline the record does not enter. -/
def noDat {cfg : Cfg sig Λ₀} (d : Dev nD) : Dat τ (Elt F) (SparseCore.Cfg.HIx 1) ℕ UU ℕ cfg d where
  A _ := fun _ => Classical.arbitrary _
  after _ _ := fun _ => Classical.arbitrary _
  Φ _ := BI.emp
  q _ := fullShare
  owed _ := 0

abbrev adm : (p : Fin 2) → (pcfgs (F := F) p).Adm := fun p => (cfgs p).toPCfg_adm

def dats0 : (p : Fin 2) → (d : Dev nD) → Dat τ (Elt F) (SparseCore.Cfg.HIx 1) ℕ UU ℕ (Pipeline.pin (pcfgs (F := F)) adm p) d
  | ⟨0, _⟩ => fun d => dat0 fL f2 n b d
  | ⟨1, _⟩ => fun d => noDat d

theorem Otc_none (d : Dev nD) (g : GSem nD τ sig) : (K (F := F)).Otc d n g none = 0 := by
  by_contra h
  have := SparseCore.Cfg.lev_of_Otc_pos (K := K (F := F)) (Nat.pos_of_ne_zero h); rw [SparseCore.Cfg.lev_none] at this; omega

/-- The two arrays of the call, held. -/
theorem arrays0_eq (d : Dev nD) (G : (w : Fin 2) → Buf (Elt F) ((cfg0.win w).arr.view.loc (d : Thread nD τ))) :
    (dat0 fL f2 n b d).arrays G = iprop(((d : Thread nD τ).loc main_arg0 ↦{fullShare} G 0) ∗ ((d : Thread nD τ).loc main_v2 ↦{fullShare} G 1)) := by
  unfold Dat.arrays
  rw [bigSep_W0]
  simp only [(dat0 fL f2 n b d).share_full (fun _ => rfl)]
  rw [show (View.whole main_arg0).set = Finset.univ from (launch0.arr_whole 0).set_eq_univ,
    show (View.whole main_v2).set = Finset.univ from (launch0.arr_whole 1).set_eq_univ]

theorem rest_in0 (d : Dev nD) :
    (Pipeline.scopedRest (Ix := SparseCore.Cfg.HIx 1) (Val := Elt F) (Name := ℕ) (U := UU) (Lvl := ℕ) spec0 d : sProp 𝕄) ⊢ lseInv fL d 0 := by
  rw [scopedRest0_eq]; unfold lseInv
  iintro ⟨Ha, Hb, Hc, ⟨%f, Hs⟩⟩
  isplitl [Ha]; · iexact Ha
  isplitl [Hb]; · iexact Hb
  isplitl [Hc]; · iexact Hc
  iexists f; isplitr; · ipureintro; exact Or.inl rfl
  iexact Hs
theorem rest_out0 (d : Dev nD) (k : ℕ) :
    lseInv fL d k ⊢ (Pipeline.scopedRest (Ix := SparseCore.Cfg.HIx 1) (Val := Elt F) (Name := ℕ) (U := UU) (Lvl := ℕ) spec0 d : sProp 𝕄) := by
  rw [scopedRest0_eq]; unfold lseInv
  iintro ⟨Ha, Hb, Hc, ⟨%f, -, Hs⟩⟩
  isplitl [Ha]; · iexact Ha
  isplitl [Hb]; · iexact Hb
  isplitl [Hc]; · iexact Hc
  iexists f; iexact Hs

set_option backward.isDefEq.respectTransparency.types false in
def reg0 : Pipeline.RegionSeg (pcfgs (F := F)) adm (dats0 fL f2 n b) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody d := body0 fL f2 n b d
  hwaits d := Pipeline.cellsWaits_intro _ _ _ _ _ fun w s t => (K (F := F)).mayWait_none _ (Otc_none n d)
  pre d := iprop(((d : Thread nD τ).loc main_arg0 ↦{fullShare} fL d) ∗ ((d : Thread nD τ).loc main_v2 ↦{fullShare} f2 d) ∗ owesB (F := F) n b d)
  post d := iprop(((d : Thread nD τ).loc main_arg0 ↦{fullShare} fL d) ∗ ((d : Thread nD τ).loc main_v2 ↦{fullShare} lseOf (fL d)) ∗ owesB (F := F) n b d)
  X _ := BI.emp
  Y _ := BI.emp
  Z _ := BI.emp
  hentry d := by
    rw [Pipeline.ownSems0_none, show (dats0 fL f2 n b 0 d) = dat0 fL f2 n b d from rfl, arrays0_eq]
    iintro ⟨⟨Ha, Hr, HO⟩, -, -⟩
    imodintro
    isplitl [Ha Hr]
    · isplitl [Ha]; · iexact Ha
      iexact Hr
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr <;> iempintro
  hin d := by
    have h := rest_in0 (F := F) fL d
    rw [show (dats0 fL f2 n b 0 d).Φ 0 = lseInv fL d 0 from rfl]
    iintro ⟨-, -, Hr⟩
    iapply h; iexact Hr
  hout d := by
    rw [Pipeline.ownSems0_none, show (dats0 fL f2 n b 0 d).Φ (Fin.last _) = lseInv fL d 8 from rfl]
    have h := rest_out0 (F := F) fL d 8
    iintro Hr
    isplitr; · iempintro
    isplitr; · iempintro
    iapply h; iexact Hr
  hexit d := by
    rw [show (dats0 fL f2 n b 0 d) = dat0 fL f2 n b d from rfl, arrays0_eq]
    rw [show (dat0 fL f2 n b d).arrAt (0 : Fin 2) (Pipeline.pin (pcfgs (F := F)) adm 0).N = fL d from (dat0 fL f2 n b d).arrAt_in 0 rfl _,
      show (dat0 fL f2 n b d).arrAt (1 : Fin 2) (Pipeline.pin (pcfgs (F := F)) adm 0).N = lseOf (fL d) from arr0_final fL f2 n b d]
    iintro ⟨⟨Ha, Hr⟩, HO, -, -⟩
    imodintro
    isplitl [Ha]; · iexact Ha
    isplitl [Hr]; · iexact Hr
    unfold Pipeline.Dat.owesAt Pipeline.owesWithin
    icases HO with ⟨%W, %hW, HO⟩; iexists W; isplitr
    · ipureintro; intro p hp
      rcases hW hp with h | ⟨w, s, h⟩
      · exact h
      · rw [h, SparseCore.Cfg.lev_none]; exact Nat.zero_le _
    iexact HO

end Data

end Cert.Proof.Run

end
-- ==== Proof.CombineRegion.lean ====
/-
  The second TensorCore call: one point, over whole arrays. The body takes the logarithm the first call stored away
  from every element of the SparseCores' result. Then the call as a region of the program.
-/
module

public import proofs.«01_k».proof.Proof.LseRegion

@[expose] public section

noncomputable section

namespace Cert.Proof.Run

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose BodyObligation cellOf)

variable {F : FTy → Type} [FloatOps F] [Named F]

local notation "𝕄" => MT nD τ sig (SparseCore.Cfg.HIx 1) (Elt F) ℕ UU ℕ

/-! ## The body -/

set_option maxHeartbeats 1000000 in
theorem comb_body (d : Dev nD) (h0 : (stage2_0 0).IsWhole) (h1 : (stage2_1 0).IsWhole) (h2 : (stage2_2 0).IsWhole)
    (X : S1x1.Idx → Elt F .f32) (Y Z : S128x128.Idx → Elt F .f32) (Q : PUnit → sProp 𝕄) :
    iprop(owns (d : Thread nD τ) (stage2_0 0) fullShare X ∗ owns (d : Thread nD τ) (stage2_1 0) fullShare Y
        ∗ owns (d : Thread nD τ) (stage2_2 0) fullShare Z
        ∗ (iprop(owns (d : Thread nD τ) (stage2_0 0) fullShare X ∗ owns (d : Thread nD τ) (stage2_1 0) fullShare Y
            ∗ owns (d : Thread nD τ) (stage2_2 0) fullShare (k2_pay1 Y X)) -∗ Q ⟨⟩))
      ⊢ wp frame (wpE (defs₀ (F := F)) 𝒱₀ (d : Thread nD τ) none) Set.univ
          (cc2__combine_body (stage2_0 0) h0 (stage2_1 0) h1 (stage2_2 0) h2) Q := by
  have hz2 : (![0, 0] : Fin 2 → Nat) = fun _ => 0 := funext fun a => by fin_cases a <;> rfl
  have hr0 : (Memref.whole cc2_stg0_0 : Memref sig .tc _ _ _).view.readAt (Elt F) (Rect.unit (s := S1x1) ![0, 0] S1x1.size
        inb_S1x1_S1x1_0_0).toLoadRect = id := funext (Memref.readAt_unit_zero (Elt F) cc2_stg0_0 hz2 _)
  have hr1 : (Memref.whole cc2_stg1_0 : Memref sig .tc _ _ _).view.readAt (Elt F) (Rect.unit (s := S128x128) ![0, 0] S128x128.size
        inb_S128x128_S128x128_0_0).toLoadRect = id := funext (Memref.readAt_unit_zero (Elt F) cc2_stg1_0 hz2 _)
  have hw2 : ∀ f w, (((Memref.whole cc2_stg2_0).access (Rect.unit (s := S128x128) ![0, 0] S128x128.size inb_S128x128_S128x128_0_0)) :
        View sig .tc _ _ _).write (Elt F) f w Finset.univ = w := Memref.write_access_unit_zero_univ (Elt F) cc2_stg2_0 hz2 _
  rw [cc2__combine_body_eq_skeleton]
  unfold cc2__combine_body_skel
  simp only [owns_whole_eq, Prog.lift, Prog.bind_op, Prog.bind_ret, Prog.pure_eq_ret]
  iintro ⟨⟨%f0, %hf0, H0⟩, ⟨%f1, %hf1, H1⟩, ⟨%f2, %hf2, H2⟩, Hk⟩
  subst hf0 hf1
  sl_steps
  iapply Hk
  try simp only [View.writes_cons, View.writes_nil]
  repeat first | rw [hr0] | rw [hr1] | rw [hw2]
  isplitl [H0]
  · iexists f0; isplitr; swap; · iexact H0
    ipureintro; rfl
  isplitl [H1]
  · iexists f1; isplitr; swap; · iexact H1
    ipureintro; rfl
  iexists _; isplitr; swap; · iexact H2
  ipureintro; rfl

/-! ## The proof data -/

section Data
variable (f2 : (d : Dev nD) → S1x1.Idx → F .f32) (f3 f4 : (d : Dev nD) → S128x128.Idx → F .f32) (n b : ℕ)

/-- A window over a whole array, at one point, stages the array as it is. -/
theorem read_blk2_0 (t : Fin cfg2.N) (f : S1x1.Idx → Elt F .f32) : ((cfg2.win 0).blk t).view.read (Elt F) f = f := by
  obtain rfl := fin_N2 t
  funext x
  exact congrArg f (funext fun a => Fin.ext (win2_0.rect_emb_val_of_index_zero t2_0 a rfl x))
theorem read_blk2_1 (t : Fin cfg2.N) (f : S128x128.Idx → Elt F .f32) : ((cfg2.win 1).blk t).view.read (Elt F) f = f := by
  obtain rfl := fin_N2 t
  funext x
  exact congrArg f (funext fun a => Fin.ext (win2_1.rect_emb_val_of_index_zero t2_0 a rfl x))
theorem read_blk2_2 (t : Fin cfg2.N) (f : S128x128.Idx → Elt F .f32) : ((cfg2.win 2).blk t).view.read (Elt F) f = f := by
  obtain rfl := fin_N2 t
  funext x
  exact congrArg f (funext fun a => Fin.ext (win2_2.rect_emb_val_of_index_zero t2_0 a rfl x))

/-- The scoped buffers the call does not stage, at something. -/
abbrev combInv (d : Dev nD) : sProp 𝕄 :=
  Pipeline.scopedRest (Ix := SparseCore.Cfg.HIx 1) (Val := Elt F) (Name := ℕ) (U := UU) (Lvl := ℕ) spec2 d

def dat2 (d : Dev nD) : Dat τ (Elt F) (SparseCore.Cfg.HIx 1) ℕ UU ℕ cfg2 d where
  A w := match w with
    | ⟨0, _⟩ => f2 d
    | ⟨1, _⟩ => f3 d
    | ⟨2, _⟩ => f4 d
  after w t := match w with
    | ⟨0, _⟩ => f2 d
    | ⟨1, _⟩ => f3 d
    | ⟨2, _⟩ => k2_pay1 (f3 d) (f2 d)
  Φ _ := combInv d
  q _ := fullShare
  owed _ := (K (F := F)).Otc d n
  recorded _ := {p | (K (F := F)).lev ((d : Thread nD τ), p.1) p.2 ≤ b}

theorem before2_0 (d : Dev nD) (t : Fin cfg2.N) (g) : (dat2 f2 f3 f4 n b d).before (0 : Fin 3) t g = f2 d := by
  unfold Dat.before; rw [if_pos (fetch2_0 t)]; exact read_blk2_0 t (f2 d)
theorem before2_1 (d : Dev nD) (t : Fin cfg2.N) (g) : (dat2 f2 f3 f4 n b d).before (1 : Fin 3) t g = f3 d := by
  unfold Dat.before; rw [if_pos (fetch2_1 t)]; exact read_blk2_1 t (f3 d)

set_option maxHeartbeats 1000000 in
theorem body2 (d : Dev nD) : BodyObligation (dat2 f2 f3 f4 n b d) (defs₀ (F := F)) 𝒱₀ none Set.univ := fun t => by
  obtain rfl := fin_N2 t
  rw [bigSep_W2, bigSep_W2]
  rw [show (dat2 f2 f3 f4 n b d).Φ t2_0.castSucc = combInv d from rfl, show (dat2 f2 f3 f4 n b d).Φ t2_0.succ = combInv d from rfl,
    show (dat2 f2 f3 f4 n b d).owesAt none t2_0.succ = (dat2 f2 f3 f4 n b d).owesAt none t2_0.castSucc from rfl]
  iintro ⟨HΦ, Howes, ⟨%d0, H0⟩, ⟨%d1, H1⟩, ⟨%d2, H2⟩⟩
  rw [before2_0, before2_1]
  have hcall := comb_body (F := F) d (hstage2_0 0) (hstage2_1 0) (hstage2_2 0) (f2 d) (f3 d) ((dat2 f2 f3 f4 n b d).before (2 : Fin 3) t2_0 d2)
  iapply hcall
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexact H0
  isplitl [H1]; · iexact H1
  iexact H2

/-- The result array's contents when the call ends. -/
theorem arr2_final (d : Dev nD) : (dat2 f2 f3 f4 n b d).arrAt (2 : Fin 3) cfg2.N = k2_pay1 (f3 d) (f2 d) := by
  refine (dat2 f2 f3 f4 n b d).arrAt_eq_of_cover (2 : Fin 3) _ ?_ ?_
  · intro t _; exact (read_blk2_2 t _).symm
  · intro i
    refine ⟨t2_0, flush2_2 _, ?_⟩
    have h := ((cfg2.win 2).blk t2_0).view.emb_mem_set i
    have e : ((cfg2.win 2).blk t2_0).view.emb i = i := funext fun a => Fin.ext (win2_2.rect_emb_val_of_index_zero t2_0 a rfl i)
    exact e ▸ h

/-! ## The region -/

def dats2 : (p : Fin 2) → (d : Dev nD) → Dat τ (Elt F) (SparseCore.Cfg.HIx 1) ℕ UU ℕ (Pipeline.pin (pcfgs (F := F)) adm p) d
  | ⟨0, _⟩ => fun d => noDat d
  | ⟨1, _⟩ => fun d => dat2 f2 f3 f4 n b d

/-- The three arrays of the call, held. -/
theorem arrays2_eq (d : Dev nD) (G : (w : Fin 3) → Buf (Elt F) ((cfg2.win w).arr.view.loc (d : Thread nD τ))) :
    (dat2 f2 f3 f4 n b d).arrays G = iprop(((d : Thread nD τ).loc main_v2 ↦{fullShare} G 0)
      ∗ ((d : Thread nD τ).loc main_v3 ↦{fullShare} G 1) ∗ ((d : Thread nD τ).loc main_v4 ↦{fullShare} G 2)) := by
  unfold Dat.arrays
  rw [bigSep_W2]
  simp only [(dat2 f2 f3 f4 n b d).share_full (fun _ => rfl)]
  rw [show (View.whole main_v2).set = Finset.univ from (launch2.arr_whole 0).set_eq_univ,
    show (View.whole main_v3).set = Finset.univ from (launch2.arr_whole 1).set_eq_univ,
    show (View.whole main_v4).set = Finset.univ from (launch2.arr_whole 2).set_eq_univ]

set_option backward.isDefEq.respectTransparency.types false in
def reg2 : Pipeline.RegionSeg (pcfgs (F := F)) adm (dats2 f2 f3 f4 n b) none defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody d := (body2 f2 f3 f4 n b d).loose
  hwaits d := Pipeline.cellsWaits_intro _ _ _ _ _ fun w s t => (K (F := F)).mayWait_none _ (Otc_none n d)
  pre d := iprop(((d : Thread nD τ).loc main_v2 ↦{fullShare} f2 d) ∗ ((d : Thread nD τ).loc main_v3 ↦{fullShare} f3 d)
    ∗ ((d : Thread nD τ).loc main_v4 ↦{fullShare} f4 d) ∗ owesB (F := F) n b d)
  post d := iprop(((d : Thread nD τ).loc main_v2 ↦{fullShare} f2 d) ∗ ((d : Thread nD τ).loc main_v3 ↦{fullShare} f3 d)
    ∗ ((d : Thread nD τ).loc main_v4 ↦{fullShare} k2_pay1 (f3 d) (f2 d)) ∗ owesB (F := F) n b d)
  X _ := BI.emp
  Y _ := BI.emp
  Z _ := BI.emp
  hentry d := by
    rw [Pipeline.ownSems0_none, show (dats2 f2 f3 f4 n b 1 d) = dat2 f2 f3 f4 n b d from rfl, arrays2_eq]
    iintro ⟨⟨Ha, Hb, Hr, HO⟩, -, -⟩
    imodintro
    isplitl [Ha Hb Hr]
    · isplitl [Ha]; · iexact Ha
      isplitl [Hb]; · iexact Hb
      iexact Hr
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr <;> iempintro
  hin d := by
    rw [show (dats2 f2 f3 f4 n b 1 d).Φ 0 = combInv d from rfl]
    iintro ⟨-, -, Hr⟩; iexact Hr
  hout d := by
    rw [Pipeline.ownSems0_none, show (dats2 f2 f3 f4 n b 1 d).Φ (Fin.last _) = combInv d from rfl]
    iintro Hr
    isplitr; · iempintro
    isplitr; · iempintro
    iexact Hr
  hexit d := by
    rw [show (dats2 f2 f3 f4 n b 1 d) = dat2 f2 f3 f4 n b d from rfl, arrays2_eq]
    rw [show (dat2 f2 f3 f4 n b d).arrAt (0 : Fin 3) (Pipeline.pin (pcfgs (F := F)) adm 1).N = f2 d from (dat2 f2 f3 f4 n b d).arrAt_in 0 rfl _,
      show (dat2 f2 f3 f4 n b d).arrAt (1 : Fin 3) (Pipeline.pin (pcfgs (F := F)) adm 1).N = f3 d from (dat2 f2 f3 f4 n b d).arrAt_in 1 rfl _,
      show (dat2 f2 f3 f4 n b d).arrAt (2 : Fin 3) (Pipeline.pin (pcfgs (F := F)) adm 1).N = k2_pay1 (f3 d) (f2 d) from arr2_final f2 f3 f4 n b d]
    iintro ⟨⟨Ha, Hb, Hr⟩, HO, -, -⟩
    imodintro
    isplitl [Ha]; · iexact Ha
    isplitl [Hb]; · iexact Hb
    isplitl [Hr]; · iexact Hr
    unfold Pipeline.Dat.owesAt Pipeline.owesWithin
    icases HO with ⟨%W, %hW, HO⟩; iexists W; isplitr
    · ipureintro; intro p hp
      rcases hW hp with h | ⟨w, s, h⟩
      · exact h
      · rw [h, SparseCore.Cfg.lev_none]; exact Nat.zero_le _
    iexact HO

end Data

end Cert.Proof.Run

end
-- ==== Proof.Handoff.lean ====
/-
  What crosses between the TensorCore and the SparseCores: the whole operands are 32 tasks' shares of them, each
  SparseCore is handed its sixteen, and the results come back the same way. And the ghost state the launch starts from.
-/
module

public import proofs.«01_k».proof.Proof.Body
public import proofs.«01_k».proof.Proof.CombineRegion

@[expose] public section

noncomputable section

namespace Cert.Proof.Run

open Cert.KernelIdeal Cert.KernelIdeal.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (SparseCore.Cfg.HIx 1) (Elt F) ℕ UU ℕ

variable (m : (ℓ : Loc nD τ sig) → Buf (Elt F) ℓ)

/-! ## The operands' contents -/

/-- The indices and the values as the first two host operations lay them out. -/
def opI (d : Dev nD) : S128x128.Idx → BitVec 32 := fun y => shapeCast S128x128 (m ((SparseCore.T d).loc main_arg3)) shapeCasts_S16384_S128x128 y
def opC (d : Dev nD) : S128x128.Idx → F .f32 := fun y => shapeCast S128x128 (m ((SparseCore.T d).loc main_arg4)) shapeCasts_S16384_S128x128 y
abbrev opL (d : Dev nD) : S1000000.Idx → F .f32 := m (lLoc d)
abbrev opX (d : Dev nD) : S1000000.Idx → F .f32 := m (xLoc d)

/-- What the SparseCore call leaves. -/
abbrev partOf (d : Dev nD) : S128x128.Idx → F .f32 := Part (opI m d) (opC m d) (opL m d) (opX m d)

/-- A task's share of the operands, the result's rows at `f`. -/
abbrev taskAt (d : Dev nD) (w : Fin 32) (f : Buf (Elt F) (oLoc d)) : sProp 𝕄 :=
  taskPts d w (opI m d) (opC m d) (opL m d) (opX m d) f

/-- All the operands and the result, whole. -/
abbrev wholePts (d : Dev nD) (f : Buf (Elt F) (oLoc d)) : sProp 𝕄 :=
  iprop((iLoc d ↦{fullShare} (opI m d : Buf (Elt F) (iLoc d))) ∗ (cLoc d ↦{fullShare} (opC m d : Buf (Elt F) (cLoc d)))
    ∗ (lLoc d ↦{fullShare} m (lLoc d)) ∗ (xLoc d ↦{fullShare} m (xLoc d)) ∗ oLoc d ↦{fullShare} f)

/-! ## The whole is its tasks' shares -/

theorem rows_eq {ℓ : Loc nD τ sig} (f : Buf (Elt F) ℓ) (R : Fin 32 → Finset (Idx ℓ))
    (hd : ∀ i j, i ≠ j → Disjoint (R i) (R j)) (hc : Finset.univ.biUnion R = Finset.univ) :
    (ℓ ↦{fullShare} f : sProp 𝕄) = bigSep Finset.univ fun w : Fin 32 => ℓ ↦[R w]{fullShare} f := by
  rw [← pointsTo_biUnion Finset.univ (ℓ := ℓ) R fun i _ j _ h => hd i j h, hc]

theorem rowR_disjoint (i j : Fin 32) (h : i ≠ j) : Disjoint (rowR i).set (rowR j).set := Rect.part_disjoint rdiv h
theorem rowR_cover : Finset.univ.biUnion (fun w : Fin 32 => (rowR w).set) = Finset.univ := Rect.biUnion_part rdiv

theorem whole_eq (d : Dev nD) (f : Buf (Elt F) (oLoc d)) :
    wholePts m d f = bigSep Finset.univ fun w : Fin 32 => taskAt m d w f := by
  unfold taskAt taskPts
  rw [bigSep_sep', bigSep_sep', bigSep_sep', bigSep_sep']
  unfold wholePts
  rw [rows_eq (ℓ := iLoc d) _ (fun w => (rowR w).set) rowR_disjoint rowR_cover,
    rows_eq (ℓ := cLoc d) _ (fun w => (rowR w).set) rowR_disjoint rowR_cover,
    rows_eq (ℓ := oLoc d) _ (fun w => (rowR w).set) rowR_disjoint rowR_cover,
    pointsTo_piecesOf (ℓ := lLoc d) Finset.univ (m (lLoc d)) (o := 32) (by decide) fullShare,
    pointsTo_piecesOf (ℓ := xLoc d) Finset.univ (m (xLoc d)) (o := 32) (by decide) fullShare]

/-- SparseCores and tiles number the blocks. -/
def widEquiv : Fin 2 × Fin 16 ≃ Fin 32 where
  toFun p := wid p.1 p.2
  invFun w := (⟨w.val % 2, by omega⟩, ⟨w.val / 2, by omega⟩)
  left_inv p := by
    obtain ⟨c, i⟩ := p
    refine Prod.ext (Fin.ext ?_) (Fin.ext ?_) <;> (show _ = _; simp only [wid]; omega)
  right_inv w := Fin.ext (by simp only [wid]; omega)

theorem whole_cores (d : Dev nD) (f : Buf (Elt F) (oLoc d)) :
    wholePts m d f = bigSep Finset.univ fun c : Fin 2 => bigSep Finset.univ fun i : Fin 16 => taskAt m d (wid c i) f := by
  rw [whole_eq, bigSep_univ_equiv widEquiv, bigSep_univ_prod]; rfl

/-! ## The handshakes -/

/-- SparseCore `c` is handed its sixteen tasks' shares and brings them back, each at what the task leaves. -/
def P : (K (F := F)).Pay (nD := nD) (Val := Elt F) (Name := ℕ) (U := UU) where
  st := fun q d c => match q with
    | 0 => bigSep Finset.univ fun i : Fin 16 => taskAt m d (wid (Fin.cast nCore_zero c) i) (m (oLoc d))
  dn := fun q d c => match q with
    | 0 => bigSep Finset.univ fun i : Fin 16 => taskAt m d (wid (Fin.cast nCore_zero c) i) (partOf m d)
  go := fun q d c i => match q with
    | 0 => taskAt m d (wid (Fin.cast nCore_zero c) (Fin.cast nSub_zero i)) (m (oLoc d))
  td := fun q d c i => match q with
    | 0 => taskAt m d (wid (Fin.cast nCore_zero c) (Fin.cast nSub_zero i)) (partOf m d)
  x := fun _ _ => iprop(emp)

instance P_storable : (P (F := F) m).IsStorable where
  st q d c := match q with
    | 0 => (inferInstance : BI.Storable (upEmb : UEmb _ 𝕄)
      (bigSep Finset.univ fun i : Fin 16 => taskAt m d (wid (Fin.cast nCore_zero c) i) (m (oLoc d))))
  dn q d c := match q with
    | 0 => (inferInstance : BI.Storable (upEmb : UEmb _ 𝕄)
      (bigSep Finset.univ fun i : Fin 16 => taskAt m d (wid (Fin.cast nCore_zero c) i) (partOf m d)))
  go q d c i := match q with
    | 0 => (inferInstance : BI.Storable (upEmb : UEmb _ 𝕄) (taskAt m d (wid (Fin.cast nCore_zero c) (Fin.cast nSub_zero i)) (m (oLoc d))))
  td q d c i := match q with
    | 0 => (inferInstance : BI.Storable (upEmb : UEmb _ 𝕄) (taskAt m d (wid (Fin.cast nCore_zero c) (Fin.cast nSub_zero i)) (partOf m d)))

theorem vecSplit : (K (F := F)).VecSplit' (P m) 0 := by
  intro d c
  show (bigSep Finset.univ fun i : Fin 16 => taskAt m d (wid (Fin.cast nCore_zero c) i) (m (oLoc d)) : sProp 𝕄) ⊢ |={Set.univ}=> iprop(
      (bigSep Finset.univ fun i : Fin 16 => taskAt m d (wid (Fin.cast nCore_zero c) i) (m (oLoc d)))
      ∗ ((bigSep Finset.univ fun i : Fin 16 => taskAt m d (wid (Fin.cast nCore_zero c) i) (partOf m d))
          -∗ (bigSep Finset.univ fun i : Fin 16 => taskAt m d (wid (Fin.cast nCore_zero c) i) (partOf m d))))
  iintro H; imodintro
  isplitl [H]; · iexact H
  iintro H; iexact H

/-- What the proof asks of the launch memory: every index names an entry of the tables. -/
def InRange : Prop := ∀ (d : Dev nD) (j : S16384.Idx), (m ((SparseCore.T d).loc main_arg3) j : BitVec 32).toNat < 1000000

set_option maxRecDepth 16384 in
theorem tileObl (hpre : InRange m) : (K (F := F)).TileObl (D (F := F)) 𝒱₁ (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) facts (opI m d) (opC m d) (opL m d) (opX m d) (m (oLoc d)) (fun y => hpre d _) O W hO).trans
    (wp_mono frame _ _ fun _ => waits_own)

/-! ## The launch's ghost state -/

/-- The pipelines' rounds. -/
abbrev EP : Emb UK (MT nD τ sig (SparseCore.Cfg.HIx 1) (Elt F) ℕ UU ℕ) := (Emb.inl : Emb UK (UK × Counters)).trans embR

/-- The staging cells are distinct, of the pipelines as pinned. -/
theorem pin_inj : Function.Injective (Pipeline.cellOf (nD := nD) (τ := τ) (Pipeline.pin (pcfgs (F := F)) adm)) := cellOf_inj

def u₀ : UU := (initOf (K (F := F)).hsCells (K (F := F)).hsToks,
  (initOf (Pipeline.cells (Pipeline.pin (pcfgs (F := F)) adm) pin_inj) (Pipeline.launchToks (Pipeline.pin (pcfgs (F := F)) adm) pin_inj), 1))

/-- What device `d`'s TensorCore is dealt: both pipelines' cells and tokens. -/
def G (d : Dev nD) : sProp 𝕄 :=
  iprop((Pipeline.cellsGhost (Pipeline.pin (pcfgs (F := F)) adm) (EP (F := F)) 0 d ∗ Pipeline.cellsGhost (Pipeline.pin (pcfgs (F := F)) adm) (EP (F := F)) 1 d)
    ∗ (Pipeline.toksInit (Pipeline.pin (pcfgs (F := F)) adm) (EP (F := F)) 0 d ∗ Pipeline.toksInit (Pipeline.pin (pcfgs (F := F)) adm) (EP (F := F)) 1 d))

theorem pair_eq {I : Type} [Fintype I] (Φ : I → Fin 2 → sProp 𝕄) :
    (bigSep Finset.univ fun d => bigSep Finset.univ fun p : Fin 2 => Φ d p) = bigSep Finset.univ fun d => iprop(Φ d 0 ∗ Φ d 1) :=
  bigSep_congr fun d _ => bigSep_fin_two _

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H := (own_pair_emb embR _ _) $$ HR
  icases H with ⟨HP, -⟩
  imod (Pipeline.fund_ghost (Pipeline.pin (pcfgs (F := F)) adm) (EP (F := F)) pin_inj) $$ HP with ⟨Hc, Ht⟩
  imodintro
  isplitl [HH]; · iexact HH
  isplitl [Hc Ht]
  · unfold G
    rw [bigSep_sep']
    isplitl [Hc]
    · iapply (Entails.of_eq (pair_eq fun d p => Pipeline.cellsGhost (Pipeline.pin (pcfgs (F := F)) adm) (EP (F := F)) p d)); iexact Hc
    · iapply (Entails.of_eq (pair_eq fun d p => Pipeline.toksInit (Pipeline.pin (pcfgs (F := F)) adm) (EP (F := F)) p d)); iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1)]
  iapply (Entails.of_eq (bigSep_emp_const (M := 𝕄) (Finset.univ : Finset (Thread nD τ))).symm); iempintro

end Cert.Proof.Run

end
-- ==== Proof.Program.lean ====
/-
  The program's run: the two host reshapes, the TensorCore's sum, the SparseCore call, the TensorCore's subtraction and
  the last reshape, in order, from any launch memory whose indices are in range.
-/
module

public import proofs.«01_k».proof.Proof.Handoff

@[expose] public section

noncomputable section

namespace Cert.Proof.Run

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (SparseCore.Cfg.HIx 1) (Elt F) ℕ UU ℕ

variable (m : (ℓ : Loc nD τ sig) → Buf (Elt F) ℓ)

/-! ## One step of the host program each -/

/-- A host reshape, of two buffers held whole: the second takes the first's contents, laid out anew. -/
theorem reshape_step (d : Dev nD) {x y : Ref sig .tc} (he : x.ty.elt = y.ty.elt) (hn) (hx) (hy) (hxy : x ≠ y)
    (V : Valuation τ sig (Elt F)) {α : Type} {k} {Q : α → sProp 𝕄} :
    iprop(boundary (d : Thread nD τ) ∗ ((d : Thread nD τ).loc x ↦{fullShare} V x) ∗ (d : Thread nD τ).loc y ↦{fullShare} V y)
      ⊢ iprop(((boundary (d : Thread nD τ) ∗ ((d : Thread nD τ).loc x ↦{fullShare} V x)
            ∗ (d : Thread nD τ).loc y ↦{fullShare} (StableHlo.reshape (τ := τ) (Val := Elt F) x y he hn hx hy).result V y)
          -∗ wp frame (wpE ((K (F := F)).defs (D (F := F))) 𝒱₁ (d : Thread nD τ) none) Set.univ
              (k ((StableHlo.reshape (τ := τ) (Val := Elt F) x y he hn hx hy).fn fun b => V b.1)) Q)
        -∗ wp frame (wpE ((K (F := F)).defs (D (F := F))) 𝒱₁ (d : Thread nD τ) none) Set.univ
            (hlo rfl (StableHlo.reshape (τ := τ) (Val := Elt F) x y he hn hx hy) k) Q) := by
  have hb : ∀ W : Valuation τ sig (Elt F), (StableHlo.held (d : Thread nD τ) {Proc.devRef .tc x, Proc.devRef .tc y} W : sProp 𝕄)
      = iprop(((d : Thread nD τ).loc x ↦{fullShare} W x) ∗ (d : Thread nD τ).loc y ↦{fullShare} W y) := fun W => by
    unfold StableHlo.held
    rw [SparseCore.bigSep_insert' (by simpa using StableHlo.devRef_ne_of_ne hxy), bigSep_singleton]
  have h := StableHlo.wp_hlo_within (hp := rfl) (defs := (K (F := F)).defs (D (F := F))) (Q := Q) (k := k) 𝒱₁ (d : Thread nD τ) none Set.univ
    (op := StableHlo.reshape (τ := τ) (Val := Elt F) x y he hn hx hy) (S := {Proc.devRef .tc x, Proc.devRef .tc y}) (V := V) subset_rfl
  rw [hb, hb, StableHlo.reshape_result_ne x y he hn hx hy V hxy] at h
  exact h

variable [∀ e, Nonempty (Elt F e)]

instance EP_lands : (EP (F := F)).LandsIn (upEmb : UEmb _ 𝕄) := by unfold EP; infer_instance

/-- The first kernel's call. -/
theorem sum_step (fL : (d : Dev nD) → S1000000.Idx → F .f32) (f2 : (d : Dev nD) → S1x1.Idx → F .f32) (n b : ℕ) (d : Dev nD) {Q : PUnit.{1} → sProp 𝕄} :
    iprop((iprop(boundary (d.tc : Thread nD τ) ∗ iprop(((d : Thread nD τ).loc main_arg0 ↦{fullShare} fL d) ∗ ((d : Thread nD τ).loc main_v2 ↦{fullShare} lseOf (fL d)) ∗ owesB (F := F) n b d)) -∗ Q ⟨⟩)
        ∗ boundary (d.tc : Thread nD τ) ∗ iprop(((d : Thread nD τ).loc main_arg0 ↦{fullShare} fL d) ∗ ((d : Thread nD τ).loc main_v2 ↦{fullShare} f2 d) ∗ owesB (F := F) n b d) ∗ levAts (K (F := F)).L (K (F := F)).lev
        ∗ Pipeline.cellsGhost (Pipeline.pin (pcfgs (F := F)) adm) (EP (F := F)) 0 d ∗ Pipeline.toksInit (Pipeline.pin (pcfgs (F := F)) adm) (EP (F := F)) 0 d)
      ⊢ wp frame (wpE ((K (F := F)).defs (D (F := F))) 𝒱₁ (d.tc : Thread nD τ) none) Set.univ
          (Prog.lift (.customCall (SparseCore.inner (Pipeline.entry 0)) ())) Q := by
  have h := Pipeline.RegionSeg.wp (pcfgs (F := F)) adm (dats0 fL f2 n b) none pin_inj (EP (F := F)) defs₀ 𝒱₀ (K (F := F)).L (K (F := F)).lev
    (reg0 fL f2 n b) d none (fun _ h => nomatch h) .ret Q
  refine BI.Entails.trans ?_ (h.trans ((K (F := F)).wp_liftProg (D (F := F)) 𝒱₁ (d.tc : Thread nD τ) Set.univ none (.op (.customCall (Pipeline.entry 0) ()) .ret) Q))
  show (_ : sProp 𝕄) ⊢ _
  iintro ⟨Hk, H⟩
  isplitl [Hk]
  · iintro H; rw [wp_ret]; imodintro; iapply Hk; iexact H
  iexact H

/-- The last kernel's call. -/
theorem combine_step (f2 : (d : Dev nD) → S1x1.Idx → F .f32) (f3 f4 : (d : Dev nD) → S128x128.Idx → F .f32) (n b : ℕ) (d : Dev nD) {Q : PUnit.{1} → sProp 𝕄} :
    iprop((iprop(boundary (d.tc : Thread nD τ) ∗ iprop(((d : Thread nD τ).loc main_v2 ↦{fullShare} f2 d) ∗ ((d : Thread nD τ).loc main_v3 ↦{fullShare} f3 d)
            ∗ ((d : Thread nD τ).loc main_v4 ↦{fullShare} k2_pay1 (f3 d) (f2 d)) ∗ owesB (F := F) n b d)) -∗ Q ⟨⟩)
        ∗ boundary (d.tc : Thread nD τ) ∗ iprop(((d : Thread nD τ).loc main_v2 ↦{fullShare} f2 d) ∗ ((d : Thread nD τ).loc main_v3 ↦{fullShare} f3 d)
            ∗ ((d : Thread nD τ).loc main_v4 ↦{fullShare} f4 d) ∗ owesB (F := F) n b d) ∗ levAts (K (F := F)).L (K (F := F)).lev
        ∗ Pipeline.cellsGhost (Pipeline.pin (pcfgs (F := F)) adm) (EP (F := F)) 1 d ∗ Pipeline.toksInit (Pipeline.pin (pcfgs (F := F)) adm) (EP (F := F)) 1 d)
      ⊢ wp frame (wpE ((K (F := F)).defs (D (F := F))) 𝒱₁ (d.tc : Thread nD τ) none) Set.univ
          (Prog.lift (.customCall (SparseCore.inner (Pipeline.entry 1)) ())) Q := by
  have h := Pipeline.RegionSeg.wp (pcfgs (F := F)) adm (dats2 f2 f3 f4 n b) none pin_inj (EP (F := F)) defs₀ 𝒱₀ (K (F := F)).L (K (F := F)).lev
    (reg2 f2 f3 f4 n b) d none (fun _ h => nomatch h) .ret Q
  refine BI.Entails.trans ?_ (h.trans ((K (F := F)).wp_liftProg (D (F := F)) 𝒱₁ (d.tc : Thread nD τ) Set.univ none (.op (.customCall (Pipeline.entry 1) ()) .ret) Q))
  show (_ : sProp 𝕄) ⊢ _
  iintro ⟨Hk, H⟩
  isplitl [Hk]
  · iintro H; rw [wp_ret]; imodintro; iapply Hk; iexact H
  iexact H

/-! ## The buffers and what is left in them -/

theorem unscopedBufs_eq (d : Dev nD) (W : (b : Ref sig .tc) → Buf (Elt F) ((d : Thread nD τ).loc b)) :
    (unscopedBufs d W : sProp 𝕄) = iprop(((d : Thread nD τ).loc main_arg0 ↦{fullShare} W main_arg0) ∗ ((d : Thread nD τ).loc main_arg1 ↦{fullShare} W main_arg1)
      ∗ ((d : Thread nD τ).loc main_arg2 ↦{fullShare} W main_arg2) ∗ ((d : Thread nD τ).loc main_arg3 ↦{fullShare} W main_arg3)
      ∗ ((d : Thread nD τ).loc main_arg4 ↦{fullShare} W main_arg4) ∗ ((d : Thread nD τ).loc main_v0 ↦{fullShare} W main_v0)
      ∗ ((d : Thread nD τ).loc main_v1 ↦{fullShare} W main_v1) ∗ ((d : Thread nD τ).loc main_v2 ↦{fullShare} W main_v2)
      ∗ ((d : Thread nD τ).loc main_v3 ↦{fullShare} W main_v3) ∗ ((d : Thread nD τ).loc main_v4 ↦{fullShare} W main_v4)
      ∗ ((d : Thread nD τ).loc main_v5 ↦{fullShare} W main_v5)) := by
  unfold unscopedBufs
  exact BI.bigSep_eq_bigSepL_of_eq [main_arg0, main_arg1, main_arg2, main_arg3, main_arg4, main_v0, main_v1, main_v2, main_v3, main_v4, main_v5]
    (by decide) (by decide) _

/-- The launch memory of device `d`. -/
abbrev V₀ (d : Dev nD) : Valuation τ sig (Elt F) := fun b => m (d, b)

theorem opI_eq (d : Dev nD) (he hn hx hy) :
    (StableHlo.reshape (τ := τ) (Val := Elt F) main_arg3 main_v0 he hn hx hy).result (V₀ m d) main_v0 = opI m d := by
  rw [StableHlo.reshape_result]; rfl
theorem opC_eq (d : Dev nD) (he hn hx hy) :
    (StableHlo.reshape (τ := τ) (Val := Elt F) main_arg4 main_v1 he hn hx hy).result (V₀ m d) main_v1 = opC m d := by
  rw [StableHlo.reshape_result]; rfl

/-- The last kernel's result, and the program's. -/
def combOf (d : Dev nD) : S128x128.Idx → F .f32 := k2_pay1 (partOf m d) (lseOf (opL m d))
def outOf (d : Dev nD) : S16384.Idx → F .f32 := shapeCast S16384 (combOf m d) shapeCasts_S128x128_S16384

/-- The memory the last reshape reads. -/
abbrev V₁ (d : Dev nD) : Valuation τ sig (Elt F) := Function.update (V₀ m d) main_v4 (combOf m d)

theorem outOf_eq (d : Dev nD) (he hn hx hy) :
    (StableHlo.reshape (τ := τ) (Val := Elt F) main_v4 main_v5 he hn hx hy).result (V₁ m d) main_v5 = outOf m d := by
  rw [StableHlo.reshape_result, show V₁ m d (Proc.tc.devRef main_v4) = combOf m d from Function.update_self ..]; rfl

/-- What a final state is read off: the arguments as they were, the result. -/
def FIN (d : Dev nD) : sProp 𝕄 :=
  iprop(((d : Thread nD τ).loc main_arg0 ↦{fullShare} m ((d : Thread nD τ).loc main_arg0)) ∗ ((d : Thread nD τ).loc main_arg1 ↦{fullShare} m ((d : Thread nD τ).loc main_arg1))
    ∗ ((d : Thread nD τ).loc main_arg2 ↦{fullShare} m ((d : Thread nD τ).loc main_arg2)) ∗ ((d : Thread nD τ).loc main_arg3 ↦{fullShare} m ((d : Thread nD τ).loc main_arg3))
    ∗ ((d : Thread nD τ).loc main_arg4 ↦{fullShare} m ((d : Thread nD τ).loc main_arg4)) ∗ (d : Thread nD τ).loc main_v5 ↦{fullShare} (outOf m d : Buf (Elt F) ((d : Thread nD τ).loc main_v5)))

theorem st_eq (d : Dev nD) : (bigSep Finset.univ fun c : Fin ((K (F := F)).nCore 0) => (P m).st 0 d c : sProp 𝕄) = wholePts m d (m (oLoc d)) := by
  rw [whole_cores]; rfl
theorem dn_eq (d : Dev nD) : (bigSep Finset.univ fun c : Fin ((K (F := F)).nCore 0) => (P m).dn 0 d c : sProp 𝕄) = wholePts m d (partOf m d) := by
  rw [whole_cores]; rfl

/-! ## @main -/

variable (ρ : Dev nD → PrngReg)

set_option maxHeartbeats 1000000 in
theorem hmain (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱₁ (SparseCore.T d) none) Set.univ (main d)
          fun _ => iprop((K (F := F)).tcSt EH d 1 ∗ FIN m d ∗ (K (F := F)).tcEnd d) := by
  unfold SparseCore.Cfg.tcRes SparseCore.Cfg.tcEnd G
  rw [unscopedBufs_eq]
  simp only [main, wp_bind, wp_pure]
  iintro ⟨#Hctx, Hst, ⟨Hb, ⟨Ha0, Ha1, Ha2, Ha3, Ha4, Hv0, Hv1, Hv2, Hv3, Hv4, Hv5⟩, Hts, -⟩, ⟨⟨Hc0, Hc1⟩, Ht0, Ht1⟩⟩
  ihave Hlev := ((K (F := F)).ctx_levAts κ) $$ Hctx
  icases Hlev with #Hlev
  iapply (reshape_step d (x := main_arg3) (y := main_v0) rfl _ _ _ (by decide) (V₀ m d)) $$ [Hb Ha3 Hv0]
  · isplitl [Hb]; · iexact Hb
    isplitl [Ha3]; · iexact Ha3
    iexact Hv0
  rw [opI_eq]
  iintro ⟨Hb, Ha3, Hv0⟩
  rw [wp_ret]; imodintro
  iapply (reshape_step d (x := main_arg4) (y := main_v1) rfl _ _ _ (by decide) (V₀ m d)) $$ [Hb Ha4 Hv1]
  · isplitl [Hb]; · iexact Hb
    isplitl [Ha4]; · iexact Ha4
    iexact Hv1
  rw [opC_eq]
  iintro ⟨Hb, Ha4, Hv1⟩
  rw [wp_ret]; imodintro
  unfold SparseCore.Cfg.tcSt
  icases Hst with ⟨HO, Hst⟩
  iapply (sum_step (fun d => opL m d) (fun d => m ((d : Thread nD τ).loc main_v2)) 0 (8 * 0) d)
  isplitr [Hb Ha0 Hv2 HO Hc0 Ht0]
  swap
  · isplitl [Hb]; · iexact Hb
    isplitl [Ha0 Hv2 HO]
    · isplitl [Ha0]; · iexact Ha0
      isplitl [Hv2]; · iexact Hv2
      iexact HO
    isplitl []; · iexact Hlev
    isplitl [Hc0]; · iexact Hc0
    iexact Ht0
  iintro ⟨Hb, Ha0, Hv2, HO⟩
  iapply ((K (F := F)).wp_run (D (F := F)) 𝒱₁ (EH := EH) (P := P m) κ d 0)
  isplitr; · iexact Hctx
  isplitl [HO Hst]
  · unfold SparseCore.Cfg.tcSt
    isplitl [HO]; · iexact HO
    iexact Hst
  rw [st_eq, dn_eq]
  isplitl [Hv0 Hv1 Ha0 Ha1 Hv3]
  · isplitl [Hv0]; · iexact Hv0
    isplitl [Hv1]; · iexact Hv1
    isplitl [Ha0]; · iexact Ha0
    isplitl [Ha1]; · iexact Ha1
    iexact Hv3
  iintro ⟨Hst, Hv0, Hv1, Ha0, Ha1, Hv3⟩
  unfold SparseCore.Cfg.tcSt
  icases Hst with ⟨HO, Hst⟩
  iapply (combine_step (fun d => lseOf (opL m d)) (fun d => partOf m d) (fun d => m ((d : Thread nD τ).loc main_v4)) 1 (8 * 1) d)
  isplitr [Hb Hv2 Hv3 Hv4 HO Hc1 Ht1]
  swap
  · isplitl [Hb]; · iexact Hb
    isplitl [Hv2 Hv3 Hv4 HO]
    · isplitl [Hv2]; · iexact Hv2
      isplitl [Hv3]; · iexact Hv3
      isplitl [Hv4]; · iexact Hv4
      iexact HO
    isplitl []; · iexact Hlev
    isplitl [Hc1]; · iexact Hc1
    iexact Ht1
  iintro ⟨Hb, Hv2, Hv3, Hv4, HO⟩
  iapply (reshape_step d (x := main_v4) (y := main_v5) rfl _ _ _ (by decide) (V₁ m d)) $$ [Hb Hv4 Hv5]
  · rw [show V₁ m d (Proc.tc.devRef main_v4) = combOf m d from Function.update_self ..,
      show V₁ m d (Proc.tc.devRef main_v5) = V₀ m d (Proc.tc.devRef main_v5) from Function.update_of_ne (StableHlo.devRef_ne_of_ne (by decide)) ..]
    isplitl [Hb]; · iexact Hb
    isplitl [Hv4]; · iexact Hv4
    iexact Hv5
  rw [outOf_eq]
  iintro ⟨Hb, Hv4, Hv5⟩
  rw [wp_ret]; imodintro; imodintro
  isplitl [HO Hst]
  · isplitl [HO]; · iexact HO
    iexact Hst
  isplitr [Hb Hts]
  swap
  · isplitl [Hb]; · iexact Hb
    iexact Hts
  unfold FIN
  isplitl [Ha0]; · iexact Ha0
  isplitl [Ha1]; · iexact Ha1
  isplitl [Ha2]; · iexact Ha2
  isplitl [Ha3]; · iexact Ha3
  isplitl [Ha4]; · iexact Ha4
  iexact Hv5

/-! ## The final state -/

/-- What the finished program's memory holds on device `d`. -/
def fq (d : Dev nD) (s' : Phys nD τ sig (Elt F)) : Prop :=
  s'.mem.mem ((d : Thread nD τ).loc main_arg0) = m ((d : Thread nD τ).loc main_arg0)
    ∧ s'.mem.mem ((d : Thread nD τ).loc main_arg1) = m ((d : Thread nD τ).loc main_arg1)
    ∧ s'.mem.mem ((d : Thread nD τ).loc main_arg2) = m ((d : Thread nD τ).loc main_arg2)
    ∧ s'.mem.mem ((d : Thread nD τ).loc main_arg3) = m ((d : Thread nD τ).loc main_arg3)
    ∧ s'.mem.mem ((d : Thread nD τ).loc main_arg4) = m ((d : Thread nD τ).loc main_arg4)
    ∧ s'.mem.mem ((d : Thread nD τ).loc main_v5) = outOf m d

theorem agree (s' : Phys nD τ sig (Elt F)) (ℓ : Loc nD τ sig) (f : Buf (Elt F) ℓ) :
    iprop(SI s' ∗ ℓ ↦{fullShare} f) ⊢ (iprop(⌜s'.mem.mem ℓ = f⌝ ∗ SI s') : sProp 𝕄) := by
  iintro H
  ihave H := (persistent_entails_right (SI_pointsTo_agree (st := s') (ℓ := ℓ) (I := Finset.univ) (q := fullShare) (f := f))) $$ H
  icases H with ⟨%h, HSI, -⟩
  isplitr; · ipureintro; exact funext fun i => h i (Finset.mem_univ i)
  iexact HSI

set_option maxRecDepth 16384 in
theorem hfin (d : Dev nD) (s' : Phys nD τ sig (Elt F)) : iprop(FIN m d ∗ SI s') ⊢ (⌜fq m d s'⌝ : sProp 𝕄) := by
  unfold FIN
  iintro ⟨⟨H0, H1, H2, H3, H4, H5⟩, HSI⟩
  ihave H := (agree s' _ _) $$ [HSI H0]
  · isplitl [HSI]; · iexact HSI
    iexact H0
  icases H with ⟨%h0, HSI⟩
  ihave H := (agree s' _ _) $$ [HSI H1]
  · isplitl [HSI]; · iexact HSI
    iexact H1
  icases H with ⟨%h1, HSI⟩
  ihave H := (agree s' _ _) $$ [HSI H2]
  · isplitl [HSI]; · iexact HSI
    iexact H2
  icases H with ⟨%h2, HSI⟩
  ihave H := (agree s' _ _) $$ [HSI H3]
  · isplitl [HSI]; · iexact HSI
    iexact H3
  icases H with ⟨%h3, HSI⟩
  ihave H := (agree s' _ _) $$ [HSI H4]
  · isplitl [HSI]; · iexact HSI
    iexact H4
  icases H with ⟨%h4, HSI⟩
  ihave H := (agree s' _ _) $$ [HSI H5]
  · isplitl [HSI]; · iexact HSI
    iexact H5
  icases H with ⟨%h5, HSI⟩
  ipureintro; exact ⟨h0, h1, h2, h3, h4, h5⟩

/-! ## The run -/

/-- What every schedule of the program ends in. -/
def Done : PUnit × MemSt nD τ sig (Elt F) → Prop := fun r =>
  (∀ c : Dev nD, r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_v5) = outOf m c) ∧ r.2.sem = fun _ => 0

theorem run_main (hpre : InRange m) :
    θ_run (Cert.KernelIdeal.defs (F := F)) (Cert.KernelIdeal.threads (F := F)) ⟨m, fun _ => 0, ρ⟩ (Done m) :=
  SparseCore.Cfg.θ_run_sc_quiescent (K := K (F := F)) (D := D (F := F)) (𝒱 := 𝒱₁) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (fun d => G d) (FIN m) (u₀ (F := F)) (sep_elim_left.trans (hu₀ m)) (hmain m ρ) (fq m) (hfin m) (Done m) (fun _ h hz => ⟨h, hz⟩)

end Cert.Proof.Run

end
-- ==== Proof.Frames.lean ====
/-
  The frames: each program runs to its end, its arguments unchanged, every semaphore at zero.
-/
module

public import proofs.«01_k».proof.Defs
public import proofs.«01_k».proof.Proof.Program
public import proofs.«01_k».proof.Proof.Gen.Kernel
public import proofs.«01_k».proof.Proof.Gen.ReferenceIdeal
public import proofs.«01_k».proof.Proof.Gen.ReferenceIdeal.Run

@[expose] public section

noncomputable section

namespace Cert.Proof.Run

open Cert.KernelIdeal Cert.KernelIdeal.Gen

open Idealize.ShloMosaic
open Idealize.ShloMosaic.TcCoe
open Idealize.SL.Sem

/-! ## The preconditions' side conditions, and what they say of the indices -/

theorem preFacts : Cert.Pre_discrete_in_range.Facts := ⟨by decide⟩
theorem unitFacts : Cert.Pre_discrete_in_range_unit_scales.Facts := ⟨by decide, by decide⟩

theorem and_bits (p q : Bool) : IntOp.andi (BitVec.ofBool p) (BitVec.ofBool q) = BitVec.ofBool (p && q) := by
  cases p <;> cases q <;> decide
theorem bit_one (p : Bool) : BitVec.ofBool p = 1#1 ↔ p = true := by cases p <;> decide

/-- A signed word at least 0 and below 1000000 is its own value, below 1000000. -/
theorem word_lt (v : BitVec 32) (e : IntOp.andi (IntOp.cmpi .sge v 0#32) (IntOp.cmpi .slt v 1000000#32) = 1#1) : v.toNat < 1000000 := by
  simp only [IntOp.cmpi, and_bits, bit_one, Bool.and_eq_true, BitVec.sle_eq_decide, BitVec.slt_eq_decide,
    decide_eq_true_eq, BitVec.toInt_eq_toNat_cond, BitVec.toNat_ofNat, Nat.reducePow, Nat.reduceMod] at e
  omega

attribute [local instance] preFacts unitFacts

/-- The bit pattern a named constant stands for, at the machine's own floats. -/
abbrev bitsNamed : Named Bits := ⟨fun _ _ {φ} bits => FloatOps.ofBits φ bits⟩

theorem inRange_bits (m : (ℓ : Loc nD τ sig) → Buf (Elt Bits) ℓ)
    (h : ∀ c : Dev nD, Cert.Pre_discrete_in_range.fn (F := Bits) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = fun _ => 1#1) : InRange m := by
  intro d j
  have e := congrFun (h d) j
  simp only [Pre_discrete_in_range.fn, andi, cmpi, broadcastInDim, constantI] at e
  exact word_lt _ e

theorem inRange_ideal (m : (ℓ : Loc nD τ sig) → Buf (Elt Ideal) ℓ) (h : Cert.Pre_KernelIdeal m) : InRange m := by
  intro d j
  have e := congrFun (h d) j
  simp only [Pre_discrete_in_range.fn, andi, cmpi, broadcastInDim, constantI] at e
  exact word_lt _ e

theorem inRange_unit (m : (ℓ : Loc nD τ sig) → Buf (Elt Ideal) ℓ) (h : Cert.Pre_KernelIdeal_discrete_in_range_unit_scales m) : InRange m := by
  intro d j
  have e := congrFun (h d).1 j
  simp only [Pre_discrete_in_range_unit_scales.fn, andi, cmpi, broadcastInDim, constantI] at e
  exact word_lt _ e

/-! ## The kernel's frames -/

/-- The run, the result left out. -/
theorem run_frame {F : FTy → Type} [FloatOps F] [Named F] [∀ e, Nonempty (Elt F e)] (m : (ℓ : Loc nD τ sig) → Buf (Elt F) ℓ) (ρ : Dev nD → PrngReg) (h : InRange m) :
    θ_run (Cert.KernelIdeal.defs (F := F)) (Cert.KernelIdeal.threads (F := F)) ⟨m, fun _ => 0, ρ⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) ∧ r.2.sem = fun _ => 0) :=
  (θ_run (Cert.KernelIdeal.defs (F := F)) _ _).mono (fun _ h => ⟨fun c => ⟨(h.1 c).1, (h.1 c).2.1, (h.1 c).2.2.1, (h.1 c).2.2.2.1, (h.1 c).2.2.2.2.1⟩, h.2⟩)
    (run_main m ρ h)

section Same

attribute [local instance] bitsNamed

/-! The program as first printed and the one with the named constant are one program where the name stands for its bits. -/

set_option maxHeartbeats 4000000 in
theorem bodies_same [Cert.Kernel.Facts] : Cert.Kernel.defs₀ (F := Bits) = Cert.KernelIdeal.defs₀ (F := Bits) := by
  funext pr l a
  match pr, l, a with
  | .tc, 0, (t, s) => rfl
  | .scVector c s, 1, _ => rfl
  | .tc, 2, (t, s) => rfl
  | .tc, 1, _ => rfl
  | .scScalar c, _, _ => rfl
  | .scVector c s, 0, _ => rfl
  | .scVector c s, 2, _ => rfl

set_option maxHeartbeats 4000000 in
theorem defs_same [Cert.Kernel.Facts] : Cert.Kernel.defs (F := Bits) = Cert.KernelIdeal.defs (F := Bits) :=
  (congrArg (fun x => Cert.Kernel.sc.defs (Pipeline.defs Cert.Kernel.pcfgs x)) bodies_same).trans rfl

set_option maxHeartbeats 4000000 in
theorem main_same [Cert.Kernel.Facts] : Cert.Kernel.main (F := Bits) = Cert.KernelIdeal.main (F := Bits) := rfl

set_option maxHeartbeats 4000000 in
theorem frame_kernel [Cert.Kernel.Facts] : Cert.quiescent_Kernel := fun m ρ hpre => by
  unfold Cert.Kernel.threads
  rw [defs_same, main_same]
  exact run_frame (F := Bits) m ρ (inRange_bits m hpre)

end Same

theorem frame_ideal : Cert.quiescent_KernelIdeal := fun m ρ hpre => run_frame (F := Ideal) m ρ (inRange_ideal m hpre)

theorem frame_ideal_unit : Cert.quiescent_KernelIdeal_pre_discrete_in_range_unit_scales :=
  fun m ρ hpre => run_frame (F := Ideal) m ρ (inRange_unit m hpre)

/-! ## The reference's frames: it declares no semaphore -/

theorem ref_frame (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r =>
      (∀ c : Dev Cert.ReferenceIdeal.nD, r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)) ∧ r.2.sem = fun _ => 0) :=
  (θ_run (Cert.ReferenceIdeal.defs (F := Ideal)) _ _).mono (fun r h => ⟨fun c => (h c).2, sem_eq_zero_of_no_sems (by decide) r.2⟩)
    (Cert.ReferenceIdeal.Value.run (F := Ideal) m ρ)

theorem frame_ref : Cert.quiescent_ReferenceIdeal := fun m ρ _ => ref_frame m ρ

theorem frame_ref_unit : Cert.quiescent_ReferenceIdeal_pre_discrete_in_range_unit_scales := fun m ρ _ => ref_frame m ρ

/-! ## The named constant -/

theorem preserves : Cert.preserves_Kernel_KernelIdeal :=
  IdealRules.named_const.statement Cert.KernelIdeal.κ "half_log_2pi" .f32 0x3F6B3F8E#32 _ rfl

end Cert.Proof.Run

end
-- ==== Proof.ScanSum.lean ====
/-
  The TensorCore's running sum, read at the extended reals: after all eight blocks it is the sum of the exponentials of
  the whole table. The places past the table's end add nothing.
-/
module

public import proofs.«01_k».proof.Defs
public import proofs.«01_k».proof.Proof.LseRegion
public import Idealize.ShloMosaic.PureOps.Ideal.Laws

@[expose] public section

noncomputable section

namespace Cert.Proof.Run

open Cert.KernelIdeal Cert.KernelIdeal.Gen

open Idealize.ShloMosaic
open Idealize.ShloMosaic.TcCoe
open Idealize.ShloMosaic.Pipeline (Window)

/-- The exponential of the table's entry at a place, zero past the end. -/
def termAt (X : S1000000.Idx → EReal) (n : ℕ) : EReal :=
  if h : n < 1000000 then Ideal.exp (X fun a => ⟨n, by match a with | 0 => exact h⟩) else 0

/-- A sum over a shape's indices of a function of the index's place is a sum over the places. -/
theorem sum_places (s : Shape) (f : ℕ → EReal) : ∑ j : s.Idx, f (s.rowMajor j).val = ∑ n ∈ Finset.range s.numel, f n := by
  rw [← Fin.sum_univ_eq_sum_range]
  exact Fintype.sum_equiv s.rowMajor _ _ fun _ => rfl

/-- The block a point stages. -/
theorem transform_val (t : Fin grid0.N) : cc0_transform_0 (grid0.coords t) 0 = t.val := by
  rcases fin_N0 t with rfl | rfl | rfl | rfl | rfl | rfl | rfl | rfl <;> decide

/-- A staged block's entry inside the table is the table's. -/
theorem blkAt_flat (X : S1000000.Idx → EReal) (t : Fin grid0.N) (j : S1024x128.Idx)
    (hj : t.val * 131072 + ((j 0).val * 128 + (j 1).val) < 1000000) :
    blkAt (F := Ideal) X t (flat j) = X fun a => ⟨t.val * 131072 + ((j 0).val * 128 + (j 1).val), by match a with | 0 => exact hj⟩ := by
  have hm : win0_0.moved (grid0.coords t) (flat j) = true := by
    rw [Window.moved_iff]
    intro a
    have h0 : (j 0).val < 1024 := (j 0).isLt
    have h1 : (j 1).val < 128 := (j 1).isLt
    match a with
    | ⟨0, _⟩ =>
      show (j 0).val * 128 + (j 1).val < win0_0.xsize (grid0.coords t) 0
      have hx := xsize_eq t
      split at hx <;> omega
  unfold blkAt Window.fill
  rw [dif_pos hm, View.read_apply]
  refine congrArg X (funext fun a => Fin.ext ?_)
  match a with
  | ⟨0, _⟩ =>
    refine Eq.trans (b := cc0_transform_0 (grid0.coords t) 0 * S131072.size 0 + 1 * (flat j 0).val) rfl ?_
    rw [transform_val, Nat.one_mul]
    rfl

/-- A masked block's entry is the term at its place. -/
theorem masked_term (X : S1000000.Idx → EReal) (t : Fin grid0.N) (j : S1024x128.Idx) :
    masked (F := Ideal) (grid0.coords t) (blkAt (F := Ideal) X t) j = termAt X (t.val * 131072 + ((j 0).val * 128 + (j 1).val)) := by
  rw [masked_apply, coords_val, termAt, Nat.add_assoc]
  by_cases h : t.val * 131072 + ((j 0).val * 128 + (j 1).val) < 1000000
  · rw [if_pos h, dif_pos h, blkAt_flat X t j h]
    rfl
  · rw [if_neg h, dif_neg h]
    exact Ideal.ofBits_zero_f32

/-- The sum of one masked block is the sum of the terms at its places. -/
theorem block_sum (X : S1000000.Idx → EReal) (t : Fin grid0.N) (s : EReal) :
    k0_pay1 (F := Ideal) (grid0.coords t) (blkAt (F := Ideal) X t) s = s + ∑ n ∈ Finset.range 131072, termAt X (t.val * 131072 + n) := by
  have e : ∀ j : S1x1024x128.Idx, shapeCast S1x1024x128 (masked (F := Ideal) (grid0.coords t) (blkAt (F := Ideal) X t)) shapeCasts_S1024x128_S1x1024x128 j
      = termAt X (t.val * 131072 + (S1x1024x128.rowMajor j).val) := fun j => by
    show masked (F := Ideal) _ _ (Shape.reshapeEquiv _ j) = _
    rw [masked_term, ← Shape.rowMajor_reshapeEquiv shapeCasts_S1024x128_S1x1024x128 j, Shape.rowMajor_val_two]
    rfl
  have hs := Ideal.multiReduction_add_total (shapeCast S1x1024x128 (masked (F := Ideal) (grid0.coords t) (blkAt (F := Ideal) X t)) shapeCasts_S1024x128_S1x1024x128)
    0x00000000#32 reduces_S1x1024x128_S1 (fun b => match b with | ⟨0, _⟩ => rfl) (.inl rfl) rfl
  rw [Finset.sum_congr rfl fun j _ => e j, sum_places S1x1024x128 fun n => termAt X (t.val * 131072 + n)] at hs
  rw [pay1_eq]
  refine congrArg (s + ·) ?_
  exact hs _

/-- After `n` blocks the running sum is the sum of the terms before place `131072 n`. -/
theorem runSum_eq (X : S1000000.Idx → EReal) (n : ℕ) (h : n ≤ 8) :
    runSum (F := Ideal) X n = ∑ k ∈ Finset.range (n * 131072), termAt X k := by
  induction n with
  | zero => exact Ideal.ofBits_zero_f32
  | succ n ih =>
    have e : runSum (F := Ideal) X (n + 1) = _ := runSum_succ (F := Ideal) X ⟨n, by show n < 8; omega⟩
    rw [e, block_sum, ih (by omega), Nat.succ_mul, Finset.sum_range_add]

/-- The whole sum. -/
theorem runSum_all (X : S1000000.Idx → EReal) : runSum (F := Ideal) X 8 = ∑ k : S1000000.Idx, Ideal.exp (X k) := by
  rw [runSum_eq X 8 (le_refl _)]
  have h1 : ∑ k : S1000000.Idx, Ideal.exp (X k) = ∑ n ∈ Finset.range 1000000, termAt X n := by
    refine Eq.trans (Finset.sum_congr rfl fun k _ => ?_) (sum_places S1000000 (termAt X))
    have hk : (k 0).val < 1000000 := (k 0).isLt
    rw [Shape.rowMajor_val_one, termAt, dif_pos hk]
    exact congrArg (fun q => Ideal.exp (X q)) (funext fun a => by match a with | 0 => rfl)
  rw [h1]
  symm
  refine Finset.sum_subset (Finset.range_mono (by norm_num)) fun n _ hn => ?_
  rw [termAt, dif_neg (by simpa using hn)]

end Cert.Proof.Run

end
-- ==== Proof.Density.lean ====
/-
  The arithmetic of the extended reals behind the value claim: a log-softmax with its maximum taken off equals the plain
  one, and the two spellings of the normal density's logarithm agree. No value needs to be finite.
-/
module

public import Idealize.ShloMosaic.PureOps.Ideal.Laws
public import Idealize.ShloMosaic.Lib.IdealHost

@[expose] public section

noncomputable section

namespace Cert.Proof.Run

open Idealize.ShloMosaic

/-! ## The exponential and the logarithm -/

theorem exp_nonneg (x : EReal) : 0 ≤ Ideal.exp x := by
  induction x using EReal.rec with
  | bot => exact le_refl _
  | top => exact le_top
  | coe r =>
    rw [Ideal.exp_coe]
    exact_mod_cast (Real.exp_pos r).le

/-- Below a real bound an extended real less the bound has a real exponential, and it scales out. -/
theorem exp_shift (x : EReal) (M : ℝ) (h : x ≤ M) :
    ∃ r : ℝ, 0 ≤ r ∧ Ideal.exp (x - M) = (r : EReal) ∧ Ideal.exp x = ((Real.exp M * r : ℝ) : EReal) := by
  induction x using EReal.rec with
  | bot => exact ⟨0, le_refl _, by rw [EReal.bot_sub]; rfl, by rw [mul_zero]; rfl⟩
  | top => exact absurd h (by simp)
  | coe x =>
    refine ⟨Real.exp (x - M), (Real.exp_pos _).le, ?_, ?_⟩
    · rw [← EReal.coe_sub]; rfl
    · rw [← Real.exp_add, add_sub_cancel]; rfl

theorem log_pos (r : ℝ) (h : 0 < r) : Ideal.log (r : EReal) = (Real.log r : EReal) := by
  rw [Ideal.log_coe, if_neg (not_le.mpr h)]

/-! ## The log-softmax -/

/-- Taking the maximum off first changes no entry of a log-softmax. -/
theorem softmax_shift {ι : Type} [Fintype ι] (x : ι → EReal) (i : ι) (M : EReal) (hle : ∀ k, x k ≤ M) (hM : ∃ k, x k = M) :
    (x i - M) - Ideal.log (∑ k, Ideal.exp (x k - M)) = x i - Ideal.log (∑ k, Ideal.exp (x k)) := by
  induction M using EReal.rec with
  | bot =>
    rw [le_bot_iff.mp (hle i), EReal.bot_sub, EReal.bot_sub, EReal.bot_sub]
  | top =>
    obtain ⟨k, hk⟩ := hM
    have hs : ∑ k, Ideal.exp (x k) = ⊤ := by
      refine top_le_iff.mp (le_trans (le_of_eq ?_) (Finset.single_le_sum (fun k _ => exp_nonneg (x k)) (Finset.mem_univ k)))
      rw [hk]; rfl
    rw [hs, Ideal.log_top, EReal.sub_top, EReal.bot_sub]
  | coe M =>
    choose r hr he hx using fun k => exp_shift (x k) M (hle k)
    obtain ⟨k, hk⟩ := hM
    have hpos : 0 < ∑ k, r k := by
      have : r k = 1 := by
        have h1 := he k
        rw [hk, ← EReal.coe_sub, sub_self, Ideal.exp_coe, Real.exp_zero] at h1
        exact_mod_cast h1.symm
      exact lt_of_lt_of_le (by rw [this]; exact one_pos) (Finset.single_le_sum (fun k _ => hr k) (Finset.mem_univ k))
    have s1 : ∑ k, Ideal.exp (x k - M) = ((∑ k, r k : ℝ) : EReal) := by
      rw [Finset.sum_congr rfl fun k _ => he k]; exact (map_sum (⟨⟨Real.toEReal, EReal.coe_zero⟩, EReal.coe_add⟩ : ℝ →+ EReal) r Finset.univ).symm
    have s2 : ∑ k, Ideal.exp (x k) = ((Real.exp M * ∑ k, r k : ℝ) : EReal) := by
      rw [Finset.sum_congr rfl fun k _ => hx k, Finset.mul_sum]
      exact (map_sum (⟨⟨Real.toEReal, EReal.coe_zero⟩, EReal.coe_add⟩ : ℝ →+ EReal) (fun k => Real.exp M * r k) Finset.univ).symm
    rw [s1, s2, log_pos _ hpos, log_pos _ (mul_pos (Real.exp_pos M) hpos), Real.log_mul (Real.exp_ne_zero M) hpos.ne', Real.log_exp]
    rcases eq_or_ne (x i) ⊥ with h | h
    · rw [h, EReal.bot_sub, EReal.bot_sub, EReal.bot_sub]
    · lift x i to ℝ using ⟨fun ht => by have := hle i; rw [ht] at this; simp at this, h⟩ with y
      norm_cast
      ring

/-! ## The normal density -/

/-- The reference's half square is the kernel's: `-(d · d) / 2` is `-((1/2 · d) · d)`, at infinite `d` too. -/
theorem half_square (d : EReal) : Ideal.div (-(d * d)) ((2 : ℝ) : EReal) = -((((1 / 2 : ℝ) : EReal) * d) * d) := by
  have h2 : ((2 : ℝ) : EReal)⁻¹ = ((1 / 2 : ℝ) : EReal) := by rw [← EReal.coe_inv]; norm_num
  rw [Ideal.div, if_neg (by norm_num), h2, neg_mul, mul_comm (d * d), ← mul_assoc]

/-- The two ways of putting an entry together: `x` the logit, `l` the log of the sum, `q` the half square, `h` the constant. -/
theorem entry_eq (x l q h : EReal) : (x - l) + ((-q - 0) - h) = (x - q - h) - l := by
  rw [sub_zero, sub_eq_add_neg, sub_eq_add_neg, sub_eq_add_neg, sub_eq_add_neg, sub_eq_add_neg, add_assoc, add_comm (-l), ← add_assoc, ← add_assoc]

end Cert.Proof.Run

end
-- ==== Proof.RefEntry.lean ====
/-
  The reference's result, read at one entry: the log-softmax at the entry's index plus the normal density's logarithm.
-/
module

public import proofs.«01_k».proof.Defs
public import proofs.«01_k».proof.Proof.Density
public import proofs.«01_k».proof.Proof.Gen.ReferenceIdeal
public import proofs.«01_k».proof.Proof.Gen.ReferenceIdeal.Run
public import Idealize.ShloMosaic.Lib.StableHlo.Predicate
public import Idealize.ShloMosaic.Lib.ReduceAll
public import Idealize.ShloMosaic.Lib.Pipeline.Value
public import Idealize.ShloMosaic.Lib.SortNet.Extract
public import Idealize.ShloMosaic.PureOps.Ideal.Laws
public import Idealize.ShloMosaic.Lib.Pointwise.Reduce

@[expose] public section

noncomputable section

namespace Cert.Proof.Run

open Cert.ReferenceIdeal Cert.ReferenceIdeal.Gen

open Idealize.ShloMosaic
open Idealize.ShloMosaic.TcCoe

/-! ## Taking from a table -/

/-- The reference's list of places: a negative index counts from the end. -/
def placesOf (I : IVec S16384 32) : IVec S16384x1 32 :=
  broadcastInDim S16384x1 ![0] bcast_S16384_S16384x1_0
    (select (cmpi .slt I (broadcastInDim S16384 ![] bcast_S_S16384 (constantI S_ 32 0#32)))
      (addi I (broadcastInDim S16384 ![] bcast_S_S16384 (constantI S_ 32 1000000#32))) I)

/-- Which places are inside the table. -/
def insideOf (I : IVec S16384 32) : IVec S16384 1 :=
  Host.reduce IntOp.andi
    (andi (cmpi .sge (placesOf I) (broadcastInDim S16384x1 ![] bcast_S_S16384x1 (constantI S_ 32 0#32)))
      (cmpi .sle (placesOf I) (broadcastInDim S16384x1 ![0, 1] bcast_S1x1_S16384x1_0_1
        (broadcastInDim S1x1 ![1] bcast_S1_S1x1_1 (constantI S1 32 999999#32)))))
    (constantI S_ 1 1#1) reducesTo_S16384x1_S16384_d1 h_S_

/-- The reference's take of a table at a list of indices. -/
def takeOf (X : FVec Ideal S1000000 .f32) (I : IVec S16384 32) : FVec Ideal S16384 .f32 :=
  select (insideOf I) (Host.gather gather_S1000000_S16384x1_S16384_n_0_n_n_0_1_1 X (placesOf I))
    (broadcastInDim S16384 ![] bcast_S_S16384 (constant S_ .f32 0x7FC00000#32))

/-- The table's place a word names. -/
def placeAt (w : BitVec 32) (h : w.toNat < 1000000) : S1000000.Idx := fun a => ⟨w.toNat, by match a with | 0 => exact h⟩

/-- A word below a million is not negative as a signed word. -/
theorem word_facts (w : BitVec 32) (h : w.toNat < 1000000) :
    IntOp.cmpi .slt w 0#32 = 0#1 ∧ IntOp.cmpi .sge w 0#32 = 1#1 ∧ IntOp.cmpi .sle w 999999#32 = 1#1 ∧ w.toInt.toNat = w.toNat := by
  have hi : w.toInt = w.toNat := by rw [BitVec.toInt_eq_toNat_cond]; split <;> omega
  have h0 : (0#32).toInt = 0 := by decide
  have h9 : (999999#32).toInt = 999999 := by decide
  refine ⟨?_, ?_, ?_, by omega⟩ <;> simp only [IntOp.cmpi, BitVec.sle_eq_decide, BitVec.slt_eq_decide, hi, h0, h9]
  · rw [decide_eq_false (by omega)]; rfl
  · rw [decide_eq_true (by omega)]; rfl
  · rw [decide_eq_true (by omega)]; rfl

/-- In range, the places are the indices. -/
theorem placesOf_apply (I : IVec S16384 32) (h : ∀ y, (I y).toNat < 1000000) (z : S16384x1.Idx) (y : S16384.Idx) (hz : (y 0).val = (z 0).val) :
    placesOf I z = I y := by
  unfold placesOf
  rw [broadcastInDim_apply _ _ _ z y fun a => by match a with | ⟨0, _⟩ => exact hz]
  unfold select Scalar.select
  rw [if_neg]
  show ¬ IntOp.cmpi .slt (I y) 0#32 = 1#1
  rw [(word_facts _ (h y)).1]
  decide

theorem insideOf_one (I : IVec S16384 32) (h : ∀ y, (I y).toNat < 1000000) (y : S16384.Idx) : insideOf I y = 1#1 := by
  refine Host.reduce_andi_one _ _ _ _ _ rfl fun z => ?_
  have e := placesOf_apply I h z (fun a => ⟨(z 0).val, by match a with | ⟨0, _⟩ => exact (z 0).isLt⟩) rfl
  obtain ⟨_, h1, h2, _⟩ := word_facts _ (h fun a => ⟨(z 0).val, by match a with | ⟨0, _⟩ => exact (z 0).isLt⟩)
  show IntOp.andi (IntOp.cmpi .sge (placesOf I z) 0#32) (IntOp.cmpi .sle (placesOf I z) 999999#32) = 1#1
  rw [e, h1, h2]
  rfl

/-- In range, the take reads the table's entry. -/
theorem takeOf_apply (X : FVec Ideal S1000000 .f32) (I : IVec S16384 32) (h : ∀ y, (I y).toNat < 1000000) (y : S16384.Idx) :
    takeOf X I y = X (placeAt (I y) (h y)) := by
  unfold takeOf select
  rw [insideOf_one I h y]
  have hy : y = Shape.Idx.ofFin (n := 16384) (y 0) := funext fun a => by match a with | ⟨0, _⟩ => rfl
  refine Eq.trans (b := Host.gather gather_S1000000_S16384x1_S16384_n_0_n_n_0_1_1 X (placesOf I) y) rfl ?_
  have hg := StableHlo.Predicate.gather_take gather_S1000000_S16384x1_S16384_n_0_n_n_0_1_1 rfl rfl rfl rfl X (placesOf I) (y 0) (by decide)
  rw [← hy] at hg
  refine hg.trans (congrArg X (funext fun a => Fin.ext ?_))
  match a with
  | ⟨0, _⟩ =>
    show min (placesOf I (StableHlo.Predicate.ixP (y 0))).toInt.toNat (1000000 - 1) = (I y).toNat
    rw [placesOf_apply I h _ y rfl, (word_facts _ (h y)).2.2.2]
    have := h y
    omega

/-! ## The log-softmax -/

/-- The table's maximum, at every place. -/
def maxOf (X : FVec Ideal S1000000 .f32) : FVec Ideal S1000000 .f32 :=
  broadcastInDim S1000000 ![0] bcast_S1_S1000000_0 (broadcastInDim S1 ![] bcast_S_S1
    (maximumf (constant S_ .f32 0xFF800000#32)
      (Host.reduce FloatOps.maximumf X (constant S_ .f32 0xFF800000#32) reducesTo_S1000000_S_d0 h_S_)))

/-- The reference's log-softmax. -/
def softOf (X : FVec Ideal S1000000 .f32) : FVec Ideal S1000000 .f32 :=
  subf (subf X (maxOf X)) (broadcastInDim S1000000 ![0] bcast_S1_S1000000_0 (Host.log (broadcastInDim S1 ![] bcast_S_S1
    (Host.reduceAdd (Host.exp (subf X (maxOf X))) (constant S_ .f32 0x00000000#32) reducesTo_S1000000_S_d0 h_S_))))

/-- A scalar spread over the table. -/
theorem spread_apply (x : FVec Ideal S_ .f32) (k : S1000000.Idx) :
    broadcastInDim S1000000 ![0] bcast_S1_S1000000_0 (broadcastInDim S1 ![] bcast_S_S1 x) k = x (Shape.Idx.first h_S_) :=
  congrArg x (funext fun a => a.elim0)

/-- A scalar's logarithm spread over the table. -/
theorem spread_log (x : FVec Ideal S_ .f32) (k : S1000000.Idx) :
    broadcastInDim S1000000 ![0] bcast_S1_S1000000_0 (Host.log (broadcastInDim S1 ![] bcast_S_S1 x)) k = Ideal.log (x (Shape.Idx.first h_S_)) :=
  congrArg (fun y => Ideal.log (x y)) (funext fun a => a.elim0)

/-- The reduction to a scalar runs over the whole table. -/
theorem drop_any (i : S1000000.Idx) (j : S_.Idx) : reducesTo_S1000000_S_d0.drop i = j := funext fun a => a.elim0

/-- A reduction by the maximum, from the bottom, of everything: it bounds every entry and is one of them. -/
theorem reduce_max {s t u : Shape} {axes : List (Fin s.rank)} (X : FVec Ideal s .f32) (b : FVec Ideal u .f32) (h : s.ReducesTo axes t) (hu : 0 < u.numel)
    (j : t.Idx) (hb : b (Shape.Idx.first hu) = (⊥ : EReal)) (hd : ∀ i, h.drop i = j) (k : s.Idx) :
    (∀ i, X i ≤ Host.reduce FloatOps.maximumf X b h hu j) ∧ ∃ i, X i = Host.reduce FloatOps.maximumf X b h hu j := by
  rw [Host.reduce_eq_foldl, hb]
  generalize hl : ((List.finRange s.numel).map s.rowMajor.symm).filter (fun i => h.drop i = j) = l
  have hm : ∀ i, i ∈ l := fun i => by
    rw [← hl, List.mem_filter]
    exact ⟨List.mem_map.mpr ⟨s.rowMajor i, List.mem_finRange _, Equiv.symm_apply_apply _ _⟩, decide_eq_true (hd i)⟩
  have hle := fun i => (SortNet.le_foldl_max X l (⊥ : EReal)).2 i (hm i)
  refine ⟨hle, ?_⟩
  rcases SortNet.foldl_max_mem X l (⊥ : EReal) with e | ⟨i, _, e⟩
  · exact ⟨k, le_antisymm (hle k) (e.le.trans bot_le)⟩
  · exact ⟨i, e.symm⟩

theorem bottom_apply (j : S_.Idx) : (constant S_ .f32 0xFF800000#32 : FVec Ideal S_ .f32) j = (⊥ : EReal) := by
  show Ideal.ofBits .f32 0xFF800000#32 = ⊥
  simp [Ideal.ofBits, Ideal.ieee]

/-- The larger of the bottom and a scalar, spread over the table, is the scalar. -/
theorem max_spread (r : FVec Ideal S_ .f32) (k : S1000000.Idx) :
    broadcastInDim S1000000 ![0] bcast_S1_S1000000_0 (broadcastInDim S1 ![] bcast_S_S1 (maximumf (constant S_ .f32 0xFF800000#32) r)) k
      = r (Shape.Idx.first h_S_) := by
  rw [spread_apply]
  show max ((constant S_ .f32 0xFF800000#32 : FVec Ideal S_ .f32) _) (r _) = _
  rw [bottom_apply, max_eq_right bot_le]

theorem maxOf_eq (X : FVec Ideal S1000000 .f32) (k : S1000000.Idx) :
    maxOf X k = Host.reduce FloatOps.maximumf X (constant S_ .f32 0xFF800000#32) reducesTo_S1000000_S_d0 h_S_ (Shape.Idx.first h_S_) := by
  unfold maxOf
  exact max_spread _ k

theorem table_max (X : FVec Ideal S1000000 .f32) (k : S1000000.Idx) :
    (∀ i, X i ≤ Host.reduce FloatOps.maximumf X (constant S_ .f32 0xFF800000#32) reducesTo_S1000000_S_d0 h_S_ (Shape.Idx.first h_S_))
      ∧ ∃ i, X i = Host.reduce FloatOps.maximumf X (constant S_ .f32 0xFF800000#32) reducesTo_S1000000_S_d0 h_S_ (Shape.Idx.first h_S_) :=
  reduce_max X (constant S_ .f32 0xFF800000#32) reducesTo_S1000000_S_d0 h_S_ (Shape.Idx.first h_S_) (bottom_apply _) (fun i => drop_any i _) k

/-- The maximum, at any place, bounds the table and is one of its entries. -/
theorem maxOf_apply (X : FVec Ideal S1000000 .f32) (k : S1000000.Idx) : (∀ i, X i ≤ maxOf X k) ∧ ∃ i, X i = maxOf X k := by
  rw [maxOf_eq]
  exact table_max X k

/-- The maximum is the same at every place. -/
theorem maxOf_const (X : FVec Ideal S1000000 .f32) (k i : S1000000.Idx) : maxOf X k = maxOf X i := by
  unfold maxOf
  rw [spread_apply, spread_apply]

/-- The sum of a whole table. -/
theorem total_apply (v : FVec Ideal S1000000 .f32) (j : S_.Idx) :
    Host.reduceAdd v (constant S_ .f32 0x00000000#32) reducesTo_S1000000_S_d0 h_S_ j = ∑ k, v k := by
  have hz : ∀ j, (constant S_ .f32 0x00000000#32 : FVec Ideal S_ .f32) j = (0 : EReal) := fun _ => Ideal.ofBits_zero_f32
  rw [Host.reduceAdd_apply]
  refine (Ideal.hostReduceAdd_total reducesTo_S1000000_S_d0 (fun b => b.elim0) _ _ _).trans ?_
  rw [hz, zero_add]

/-- The log-softmax at a place. -/
theorem softOf_apply (X : FVec Ideal S1000000 .f32) (i : S1000000.Idx) : softOf X i = X i - Ideal.log (∑ k, Ideal.exp (X k)) := by
  have hs : broadcastInDim S1000000 ![0] bcast_S1_S1000000_0 (Host.log (broadcastInDim S1 ![] bcast_S_S1
      (Host.reduceAdd (Host.exp (subf X (maxOf X))) (constant S_ .f32 0x00000000#32) reducesTo_S1000000_S_d0 h_S_))) i
      = Ideal.log (∑ k, Ideal.exp (X k - maxOf X i)) := by
    rw [spread_log, total_apply]
    refine congrArg Ideal.log (Finset.sum_congr rfl fun k _ => ?_)
    rw [maxOf_const X i k]
    rfl
  refine Eq.trans (congrArg ((X i - maxOf X i) - ·) hs) ?_
  exact softmax_shift X i _ (maxOf_apply X i).1 (maxOf_apply X i).2

/-- The reference's result. -/
def refOf (L X S : FVec Ideal S1000000 .f32) (I : IVec S16384 32) (C : FVec Ideal S16384 .f32) : FVec Ideal S16384 .f32 :=
  addf (takeOf (softOf L) I) (subf (subf
    (Host.divf (Host.negf (mulf (subf C (takeOf X I)) (subf C (takeOf X I))))
      (mulf (broadcastInDim S16384 ![] bcast_S_S16384 (constant S_ .f32 0x40000000#32)) (mulf (takeOf S I) (takeOf S I))))
    (Host.log (takeOf S I)))
    (broadcastInDim S16384 ![] bcast_S_S16384 (id (mulf (constant S_ .f32 0x3F000000#32) (Host.log (constant S_ .f32 0x40C90FDB#32))))))

theorem res_eq (m : (ℓ : Loc nD τ sig) → Buf (Elt Ideal) ℓ) (c : Dev nD) :
    Cert.ReferenceIdeal.Value.res_main_v18 m c = refOf (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

end Cert.Proof.Run

end
-- ==== Proof.Value.lean ====
/-
  The value claim: in the extended reals the kernel's result is the reference's, where the indices are in range and the
  scales are one.
-/
module

public import proofs.«01_k».proof.Defs
public import proofs.«01_k».proof.Proof.Frames
public import proofs.«01_k».proof.Proof.ScanSum
public import proofs.«01_k».proof.Proof.RefEntry

@[expose] public section

noncomputable section

namespace Cert.Proof.Run

open Cert.KernelIdeal Cert.KernelIdeal.Gen

open Idealize.ShloMosaic
open Idealize.ShloMosaic.TcCoe
open Idealize.SL.Sem

attribute [local instance] unitFacts

/-! ## The constants -/

theorem half_bits : Ideal.ofBits .f32 0x3F000000#32 = ((1 / 2 : ℝ) : EReal) := by
  simp [Ideal.ofBits, Ideal.ieee, -EReal.coe_mul]; norm_num
theorem two_bits : Ideal.ofBits .f32 0x40000000#32 = ((2 : ℝ) : EReal) := by
  simp [Ideal.ofBits, Ideal.ieee, -EReal.coe_mul]; norm_num
theorem tau_bits : Ideal.ofBits .f32 0x40C90FDB#32 = ((13176795 / 2097152 : ℝ) : EReal) := by
  simp [Ideal.ofBits, Ideal.ieee, -EReal.coe_mul]; norm_num

/-- The kernel's named constant. -/
def halfLog : EReal := (((1 / 2) * (Real.log (13176795 / 2097152)) : ℝ) : EReal)

theorem named_eq : (Named.named Cert.KernelIdeal.κ "half_log_2pi" 0x3F6B3F8E#32 : Ideal .f32) = halfLog := rfl

/-- The reference computes the same constant. -/
theorem constant_eq : Ideal.ofBits .f32 0x3F000000#32 * Ideal.log (Ideal.ofBits .f32 0x40C90FDB#32) = halfLog := by
  rw [half_bits, tau_bits, log_pos _ (by norm_num), halfLog, EReal.coe_mul]

/-! ## The two results at an entry -/

/-- The value at an entry, from the logits `L`, the centres `X`, the indices `I` and the values `C`. -/
def valOf (L X : S1000000.Idx → EReal) (I : S16384.Idx → BitVec 32) (C : S16384.Idx → EReal) (h : ∀ y, (I y).toNat < 1000000) (y : S16384.Idx) : EReal :=
  (L (placeAt (I y) (h y)) - (((1 / 2 : ℝ) : EReal) * (C y - X (placeAt (I y) (h y)))) * (C y - X (placeAt (I y) (h y))) - halfLog)
    - Ideal.log (∑ k, Ideal.exp (L k))

/-- The reference's arithmetic, entry by entry, over what it took from the tables. -/
theorem density_apply (T X S C : FVec Ideal Cert.ReferenceIdeal.S16384 .f32) (y : Cert.ReferenceIdeal.S16384.Idx) :
    addf T (subf (subf
        (Host.divf (Host.negf (mulf (subf C X) (subf C X)))
          (mulf (broadcastInDim Cert.ReferenceIdeal.S16384 ![] Cert.ReferenceIdeal.Gen.bcast_S_S16384 (constant Cert.ReferenceIdeal.S_ .f32 0x40000000#32)) (mulf S S)))
        (Host.log S))
        (broadcastInDim Cert.ReferenceIdeal.S16384 ![] Cert.ReferenceIdeal.Gen.bcast_S_S16384
          (id (mulf (constant Cert.ReferenceIdeal.S_ .f32 0x3F000000#32) (Host.log (constant Cert.ReferenceIdeal.S_ .f32 0x40C90FDB#32)))))) y
      = T y + ((Ideal.div (-((C y - X y) * (C y - X y))) (Ideal.ofBits .f32 0x40000000#32 * (S y * S y)) - Ideal.log (S y))
          - Ideal.ofBits .f32 0x3F000000#32 * Ideal.log (Ideal.ofBits .f32 0x40C90FDB#32)) := rfl

/-- The reference's entry. -/
theorem refOf_apply (L X S : FVec Ideal S1000000 .f32) (I : IVec S16384 32) (C : FVec Ideal S16384 .f32)
    (h : ∀ y, (I y).toNat < 1000000) (hS : ∀ k, S k = (1 : EReal)) (y : S16384.Idx) : refOf L X S I C y = valOf L X I C h y := by
  have h1 : Ideal.log 1 = 0 := by
    rw [← EReal.coe_one, log_pos _ one_pos, Real.log_one, EReal.coe_zero]
  unfold refOf
  rw [density_apply, takeOf_apply _ _ h, takeOf_apply _ _ h, takeOf_apply _ _ h, hS, softOf_apply, constant_eq, two_bits, mul_one, mul_one, h1,
    half_square, entry_eq]
  rfl

/-- A reshape there and back is no reshape. -/
theorem there_and_back (j : S16384.Idx) (y : S128x128.Idx) (e : (S128x128.rowMajor y : ℕ) = S16384.rowMajor j) :
    Shape.reshapeEquiv shapeCasts_S16384_S128x128 y = j :=
  Shape.reshapeEquiv_eq_of_rowMajor _ e.symm

/-- The last kernel's entry. -/
theorem comb_apply (p : S128x128.Idx → EReal) (l : S1x1.Idx → EReal) (s : EReal) (hl : ∀ z, l z = s) (y : S128x128.Idx) :
    k2_pay1 (F := Ideal) p l y = p y - s := by
  unfold k2_pay1
  show p (Shape.reshapeEquiv _ y) - l _ = _
  rw [hl, Shape.reshapeEquiv_eq_of_rowMajor _ (y := y) rfl]

/-- The kernel's entry. -/
theorem outOf_apply (m : (ℓ : Loc nD τ sig) → Buf (Elt Ideal) ℓ) (c : Dev nD) (h : InRange m) (j : S16384.Idx) :
    outOf m c j = valOf (m ((c : Thread nD τ).loc main_arg0)) (m ((c : Thread nD τ).loc main_arg1)) (m ((c : Thread nD τ).loc main_arg3))
      (m ((c : Thread nD τ).loc main_arg4)) (h c) j := by
  have hl : ∀ z, lseOf (F := Ideal) (opL m c) z = Ideal.log (∑ k : S1000000.Idx, Ideal.exp (opL m c k)) := fun z => by
    rw [← runSum_all]
    rfl
  have hy := there_and_back j (Shape.reshapeEquiv shapeCasts_S128x128_S16384 j) (Shape.rowMajor_reshapeEquiv _ j)
  show k2_pay1 (F := Ideal) (partOf m c) (lseOf (opL m c)) (Shape.reshapeEquiv shapeCasts_S128x128_S16384 j) = _
  rw [comb_apply _ _ _ hl]
  generalize Shape.reshapeEquiv shapeCasts_S128x128_S16384 j = y at hy
  have hI : opI m c y = m ((c : Thread nD τ).loc main_arg3) j := congrArg (m ((c : Thread nD τ).loc main_arg3)) hy
  have hC : opC m c y = m ((c : Thread nD τ).loc main_arg4) j := congrArg (m ((c : Thread nD τ).loc main_arg4)) hy
  have hr : rowAt (opI m c y) = placeAt (m ((c : Thread nD τ).loc main_arg3) j) (h c j) := by
    rw [hI]
    refine funext fun a => Fin.ext ?_
    show min _ 999999 = _
    exact Nat.min_eq_left (Nat.le_of_lt_succ (h c j))
  unfold partOf Part
  rw [hr, hC]
  unfold entryOf valOf
  rw [named_eq, ← half_bits]
  rfl

/-! ## The claim -/

/-- The precondition's second half: every scale is one. -/
theorem scales_one (m : (ℓ : Loc nD τ sig) → Buf (Elt Ideal) ℓ) (h : Cert.Pre_KernelIdeal_discrete_in_range_unit_scales m) (c : Dev nD) (k : S1000000.Idx) :
    m ((c : Thread nD τ).loc main_arg2) k = (1 : EReal) := by
  have e := congrFun (h c).2 k
  simp only [Pre_discrete_in_range_unit_scales.fn, cmpf, broadcastInDim, constant] at e
  exact (of_decide_eq_true ((bit_one _).mp e)).trans Ideal.ofBits_one_f32

theorem algebraic : Cert.algebraic_KernelIdeal_ReferenceIdeal_pre_discrete_in_range_unit_scales := by
  intro m g m' g' hpre hargs
  have hI := inRange_unit m hpre
  refine ⟨fun c => outOf m c, (θ_run _ _ _).mono (fun _ h c => ?_) (run_main m g hI), (θ_run _ _ _).mono (fun r h c => ?_) (Cert.ReferenceIdeal.Value.run m' g')⟩
  · obtain ⟨h0, h1, h2, h3, h4, h5⟩ := h.1 c
    exact ⟨h5, h0, h1, h2, h3, h4⟩
  · obtain ⟨hv, hr⟩ := h c
    refine ⟨hv.trans ?_, hr⟩
    obtain ⟨e0, e1, e2, e3, e4⟩ := hargs c
    rw [res_eq, e0, e1, e2, e3, e4]
    funext y
    exact (refOf_apply _ _ _ _ _ (hI c) (scales_one m hpre c) y).trans (outOf_apply m c hI y).symm

end Cert.Proof.Run

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Run.preFacts, Run.unitFacts,
  @Run.frame_kernel Cert.Kernel.Gen.facts, Run.frame_ideal, Run.frame_ideal_unit, Run.frame_ref, Run.frame_ref_unit, Run.preserves, Run.algebraic⟩

end Cert.Proof

end
